-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v51_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v51_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S128x1x16384 : Shape := ⟨3, ![128, 1, 16384]⟩
abbrev S128x1x16x128 : Shape := ⟨4, ![128, 1, 16, 128]⟩
abbrev S128x2048x16x128 : Shape := ⟨4, ![128, 2048, 16, 128]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S128x1x16384 .bf16) (main_arg1 : FVec F S128x1x16x128 .bf16) (main_arg2 : FVec F S128x1x16x128 .bf16) (main_arg3 : FVec F S128x2048x16x128 .fp8e4m3) (main_arg4 : FVec F S16 .f32) (main_arg5 : FVec F S128x2048x16x128 .fp8e4m3) (main_arg6 : FVec F S16 .f32) : IVec S16 1 :=
  let main_cst : FVec F S_ .f32 := constant S_ .f32 0x00000000#32
  let main_v0 : FVec F S16 .f32 := broadcastInDim S16 ![] bcast_S_S16 main_cst
  let main_v1 : IVec S16 1 := cmpf .oge main_arg4 main_v0
  let main_cst_0 : FVec F S_ .f32 := constant S_ .f32 0x7F800000#32
  let main_v2 : FVec F S16 .f32 := broadcastInDim S16 ![] bcast_S_S16 main_cst_0
  let main_v3 : IVec S16 1 := cmpf .olt main_arg4 main_v2
  let main_v4 : IVec S16 1 := andi main_v1 main_v3
  let main_cst_1 : FVec F S_ .f32 := constant S_ .f32 0x00000000#32
  let main_v5 : FVec F S16 .f32 := broadcastInDim S16 ![] bcast_S_S16 main_cst_1
  let main_v6 : IVec S16 1 := cmpf .oge main_arg6 main_v5
  let main_cst_2 : FVec F S_ .f32 := constant S_ .f32 0x7F800000#32
  let main_v7 : FVec F S16 .f32 := broadcastInDim S16 ![] bcast_S_S16 main_cst_2
  let main_v8 : IVec S16 1 := cmpf .olt main_arg6 main_v7
  let main_v9 : IVec S16 1 := andi main_v6 main_v8
  let main_v10 : IVec S16 1 := andi main_v4 main_v9
  main_v10
-- ==== Kernel.lean ====
abbrev S128x1x16384 : Shape := ⟨3, ![128, 1, 16384]⟩
abbrev S128x1x16x128 : Shape := ⟨4, ![128, 1, 16, 128]⟩
abbrev S128x2048x16x128 : Shape := ⟨4, ![128, 2048, 16, 128]⟩
abbrev S16 : Shape := ⟨1, ![16]⟩
abbrev S254 : Shape := ⟨1, ![254]⟩
abbrev S4x4 : Shape := ⟨2, ![4, 4]⟩
abbrev S_ : Shape := ⟨0, ![]⟩
abbrev S1x4x1x4 : Shape := ⟨4, ![1, 4, 1, 4]⟩
abbrev S1x4x32x4 : Shape := ⟨4, ![1, 4, 32, 4]⟩
abbrev S4x128 : Shape := ⟨2, ![4, 128]⟩
abbrev S128x128x128 : Shape := ⟨3, ![128, 128, 128]⟩
abbrev S128x16x128 : Shape := ⟨3, ![128, 16, 128]⟩
abbrev S16x1 : Shape := ⟨2, ![16, 1]⟩
abbrev S1x254 : Shape := ⟨2, ![1, 254]⟩
abbrev S16x254 : Shape := ⟨2, ![16, 254]⟩
abbrev S16x128 : Shape := ⟨2, ![16, 128]⟩
abbrev S128x32768x128 : Shape := ⟨3, ![128, 32768, 128]⟩
abbrev S1x128x128 : Shape := ⟨3, ![1, 128, 128]⟩
abbrev S1x16x128 : Shape := ⟨3, ![1, 16, 128]⟩
abbrev S1x32768x128 : Shape := ⟨3, ![1, 32768, 128]⟩
abbrev S4x8x8192 : Shape := ⟨3, ![4, 8, 8192]⟩
abbrev S128x128 : Shape := ⟨2, ![128, 128]⟩
abbrev S32x128 : Shape := ⟨2, ![32, 128]⟩
abbrev S8x512 : Shape := ⟨2, ![8, 512]⟩
abbrev S8x128 : Shape := ⟨2, ![8, 128]⟩
abbrev S32x256 : Shape := ⟨2, ![32, 256]⟩
abbrev S64x256 : Shape := ⟨2, ![64, 256]⟩
abbrev S1x2048x128 : Shape := ⟨3, ![1, 2048, 128]⟩
abbrev S2048x128 : Shape := ⟨2, ![2048, 128]⟩
abbrev S128x4x4x128 : Shape := ⟨4, ![128, 4, 4, 128]⟩
abbrev S128x1x4x128 : Shape := ⟨4, ![128, 1, 4, 128]⟩
abbrev S128x4x128 : Shape := ⟨3, ![128, 4, 128]⟩
abbrev S512x128 : Shape := ⟨2, ![512, 128]⟩
abbrev S512x256 : Shape := ⟨2, ![512, 256]⟩
abbrev S64x512 : Shape := ⟨2, ![64, 512]⟩
abbrev S1x128 : Shape := ⟨2, ![1, 128]⟩
abbrev S1x512 : Shape := ⟨2, ![1, 512]⟩
abbrev S1x8x512 : Shape := ⟨3, ![1, 8, 512]⟩
abbrev S8 : Shape := ⟨1, ![8]⟩
abbrev S8x1 : Shape := ⟨2, ![8, 1]⟩
abbrev S1x1 : Shape := ⟨2, ![1, 1]⟩
abbrev S1x8x128 : Shape := ⟨3, ![1, 8, 128]⟩

abbrev nBuf : Space → Nat
  | .hbm => 84
  | .vmem => 23
  | .smem => 0
  | _ => 0

abbrev bufTy : (tb : Table) → Fin (tcTables nBuf tb) → BufTy
  | .hbm, ⟨0, _⟩ => ⟨S128x1x16384, .bf16⟩
  | .hbm, ⟨1, _⟩ => ⟨S128x1x16x128, .bf16⟩
  | .hbm, ⟨2, _⟩ => ⟨S128x1x16x128, .bf16⟩
  | .hbm, ⟨3, _⟩ => ⟨S128x2048x16x128, .fp8e4m3⟩
  | .hbm, ⟨4, _⟩ => ⟨S16, .f32⟩
  | .hbm, ⟨5, _⟩ => ⟨S128x2048x16x128, .fp8e4m3⟩
  | .hbm, ⟨6, _⟩ => ⟨S16, .f32⟩
  | .hbm, ⟨7, _⟩ => ⟨S254, .f32⟩
  | .hbm, ⟨8, _⟩ => ⟨S254, .f32⟩
  | .hbm, ⟨9, _⟩ => ⟨S16, .bf16⟩
  | .hbm, ⟨10, _⟩ => ⟨S16, .f32⟩
  | .hbm, ⟨11, _⟩ => ⟨S16, .bf16⟩
  | .hbm, ⟨12, _⟩ => ⟨S16, .f32⟩
  | .hbm, ⟨13, _⟩ => ⟨S4x4, .f32⟩
  | .hbm, ⟨14, _⟩ => ⟨S_, .f32⟩
  | .hbm, ⟨15, _⟩ => ⟨S4x4, .f32⟩
  | .hbm, ⟨16, _⟩ => ⟨S4x4, .f32⟩
  | .hbm, ⟨17, _⟩ => ⟨S1x4x1x4, .f32⟩
  | .hbm, ⟨18, _⟩ => ⟨S1x4x32x4, .f32⟩
  | .hbm, ⟨19, _⟩ => ⟨S4x128, .f32⟩
  | .hbm, ⟨20, _⟩ => ⟨S128x128x128, .bf16⟩
  | .hbm, ⟨21, _⟩ => ⟨S128x16x128, .bf16⟩
  | .hbm, ⟨22, _⟩ => ⟨S128x16x128, .bf16⟩
  | .hbm, ⟨23, _⟩ => ⟨S16, .f32⟩
  | .hbm, ⟨24, _⟩ => ⟨S16x1, .f32⟩
  | .hbm, ⟨25, _⟩ => ⟨S1x254, .f32⟩
  | .hbm, ⟨26, _⟩ => ⟨S16x254, .f32⟩
  | .hbm, ⟨27, _⟩ => ⟨S16x254, .f32⟩
  | .hbm, ⟨28, _⟩ => ⟨S16x254, .i1⟩
  | .hbm, ⟨29, _⟩ => ⟨S_, .f32⟩
  | .hbm, ⟨30, _⟩ => ⟨S_, .f32⟩
  | .hbm, ⟨31, _⟩ => ⟨S16x254, .f32⟩
  | .hbm, ⟨32, _⟩ => ⟨S16x254, .f32⟩
  | .hbm, ⟨33, _⟩ => ⟨S16x254, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .i1⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .i1⟩
  | .hbm, ⟨43, _⟩ => ⟨S16, .i1⟩
  | .hbm, ⟨44, _⟩ => ⟨S_, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16x1, .f32⟩
  | .hbm, ⟨49, _⟩ => ⟨S16x128, .f32⟩
  | .hbm, ⟨50, _⟩ => ⟨S16, .f32⟩
  | .hbm, ⟨51, _⟩ => ⟨S16x1, .f32⟩
  | .hbm, ⟨52, _⟩ => ⟨S1x254, .f32⟩
  | .hbm, ⟨53, _⟩ => ⟨S16x254, .f32⟩
  | .hbm, ⟨54, _⟩ => ⟨S16x254, .f32⟩
  | .hbm, ⟨55, _⟩ => ⟨S16x254, .i1⟩
  | .hbm, ⟨56, _⟩ => ⟨S_, .f32⟩
  | .hbm, ⟨57, _⟩ => ⟨S_, .f32⟩
  | .hbm, ⟨58, _⟩ => ⟨S16x254, .f32⟩
  | .hbm, ⟨59, _⟩ => ⟨S16x254, .f32⟩
  | .hbm, ⟨60, _⟩ => ⟨S16x254, .f32⟩
  | .hbm, ⟨61, _⟩ => ⟨S_, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .i1⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .i1⟩
  | .hbm, ⟨70, _⟩ => ⟨S16, .i1⟩
  | .hbm, ⟨71, _⟩ => ⟨S_, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16x1, .f32⟩
  | .hbm, ⟨76, _⟩ => ⟨S16x128, .f32⟩
  | .hbm, ⟨77, _⟩ => ⟨S16x1, .f32⟩
  | .hbm, ⟨78, _⟩ => ⟨S16x128, .f32⟩
  | .hbm, ⟨79, _⟩ => ⟨S128x32768x128, .fp8e4m3⟩
  | .hbm, ⟨80, _⟩ => ⟨S128x32768x128, .fp8e4m3⟩
  | .hbm, ⟨81, _⟩ => ⟨S128x128x128, .bf16⟩
  | .hbm, ⟨82, _⟩ => ⟨S128x16x128, .fp8e4m3⟩
  | .hbm, ⟨83, _⟩ => ⟨S128x16x128, .fp8e4m3⟩
  | .local _ .vmem, ⟨0, _⟩ => ⟨S1x128x128, .bf16⟩
  | .local _ .vmem, ⟨1, _⟩ => ⟨S1x128x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x16x128, .bf16⟩
  | .local _ .vmem, ⟨6, _⟩ => ⟨S16x128, .f32⟩
  | .local _ .vmem, ⟨7, _⟩ => ⟨S16x128, .f32⟩
  | .local _ .vmem, ⟨8, _⟩ => ⟨S4x128, .f32⟩
  | .local _ .vmem, ⟨9, _⟩ => ⟨S16x128, .f32⟩
  | .local _ .vmem, ⟨10, _⟩ => ⟨S1x32768x128, .fp8e4m3⟩
  | .local _ .vmem, ⟨11, _⟩ => ⟨S1x32768x128, .fp8e4m3⟩
  | .local _ .vmem, ⟨12, _⟩ => ⟨S1x32768x128, .fp8e4m3⟩
  | .local _ .vmem, ⟨13, _⟩ => ⟨S1x32768x128, .fp8e4m3⟩
  | .local _ .vmem, ⟨14, _⟩ => ⟨S1x128x128, .bf16⟩
  | .local _ .vmem, ⟨15, _⟩ => ⟨S1x128x128, .bf16⟩
  | .local _ .vmem, ⟨16, _⟩ => ⟨S1x16x128, .fp8e4m3⟩
  | .local _ .vmem, ⟨17, _⟩ => ⟨S1x16x128, .fp8e4m3⟩
  | .local _ .vmem, ⟨18, _⟩ => ⟨S1x16x128, .fp8e4m3⟩
  | .local _ .vmem, ⟨19, _⟩ => ⟨S1x16x128, .fp8e4m3⟩
  | .local _ .vmem, ⟨20, _⟩ => ⟨S4x8x8192, .f32⟩
  | .local _ .vmem, ⟨21, _⟩ => ⟨S16x128, .f32⟩
  | .local _ .vmem, ⟨22, _⟩ => ⟨S16x128, .f32⟩
  | _, _ => ⟨S128x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_call3_v0 : Ref sig .tc := ⟨.hbm, 72, rfl⟩
abbrev main_call3_v1 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51_0 : Ref sig .tc := ⟨.hbm, 81, rfl⟩
abbrev main_v51_1 : Ref sig .tc := ⟨.hbm, 82, rfl⟩
abbrev main_v51_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32768x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32768x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S128x1x16384 : Shape := ⟨3, ![128, 1, 16384]⟩
abbrev S128x1x16x128 : Shape := ⟨4, ![128, 1, 16, 128]⟩
abbrev S128x2048x16x128 : Shape := ⟨4, ![128, 2048, 16, 128]⟩
abbrev S16 : Shape := ⟨1, ![16]⟩
abbrev S254 : Shape := ⟨1, ![254]⟩
abbrev S16x1 : Shape := ⟨2, ![16, 1]⟩
abbrev S1x254 : Shape := ⟨2, ![1, 254]⟩
abbrev S16x254 : Shape := ⟨2, ![16, 254]⟩
abbrev S_ : Shape := ⟨0, ![]⟩
abbrev S1x1x16x1 : Shape := ⟨4, ![1, 1, 16, 1]⟩
abbrev S128x2049x16x128 : Shape := ⟨4, ![128, 2049, 16, 128]⟩
abbrev S128x1x16x8x128 : Shape := ⟨5, ![128, 1, 16, 8, 128]⟩
abbrev S128x16x2049x1x8 : Shape := ⟨5, ![128, 16, 2049, 1, 8]⟩
abbrev S128x16x8x1x2049 : Shape := ⟨5, ![128, 16, 8, 1, 2049]⟩
abbrev S128x16x8x1 : Shape := ⟨4, ![128, 16, 8, 1]⟩
abbrev S128x16x8x1x1 : Shape := ⟨5, ![128, 16, 8, 1, 1]⟩
abbrev S128x16x8x1x128 : Shape := ⟨5, ![128, 16, 8, 1, 128]⟩
abbrev S128x128x128 : Shape := ⟨3, ![128, 128, 128]⟩
abbrev S128x16x128 : Shape := ⟨3, ![128, 16, 128]⟩

abbrev nBuf : Space → Nat
  | .hbm => 127
  | .vmem => 10
  | .smem => 0
  | _ => 0

abbrev bufTy : (tb : Table) → Fin (tcTables nBuf tb) → BufTy
  | .hbm, ⟨0, _⟩ => ⟨S128x1x16384, .bf16⟩
  | .hbm, ⟨1, _⟩ => ⟨S128x1x16x128, .bf16⟩
  | .hbm, ⟨2, _⟩ => ⟨S128x1x16x128, .bf16⟩
  | .hbm, ⟨3, _⟩ => ⟨S128x2048x16x128, .fp8e4m3⟩
  | .hbm, ⟨4, _⟩ => ⟨S16, .f32⟩
  | .hbm, ⟨5, _⟩ => ⟨S128x2048x16x128, .fp8e4m3⟩
  | .hbm, ⟨6, _⟩ => ⟨S16, .f32⟩
  | .hbm, ⟨7, _⟩ => ⟨S254, .f32⟩
  | .hbm, ⟨8, _⟩ => ⟨S254, .f32⟩
  | .hbm, ⟨9, _⟩ => ⟨S16, .f32⟩
  | .hbm, ⟨10, _⟩ => ⟨S16x1, .f32⟩
  | .hbm, ⟨11, _⟩ => ⟨S1x254, .f32⟩
  | .hbm, ⟨12, _⟩ => ⟨S16x254, .f32⟩
  | .hbm, ⟨13, _⟩ => ⟨S16x254, .f32⟩
  | .hbm, ⟨14, _⟩ => ⟨S16x254, .i1⟩
  | .hbm, ⟨15, _⟩ => ⟨S_, .f32⟩
  | .hbm, ⟨16, _⟩ => ⟨S_, .f32⟩
  | .hbm, ⟨17, _⟩ => ⟨S16x254, .f32⟩
  | .hbm, ⟨18, _⟩ => ⟨S16x254, .f32⟩
  | .hbm, ⟨19, _⟩ => ⟨S16x254, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .i1⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .i1⟩
  | .hbm, ⟨29, _⟩ => ⟨S16, .i1⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S128x1x16x128, .f32⟩
  | .hbm, ⟨35, _⟩ => ⟨S16x1, .f32⟩
  | .hbm, ⟨36, _⟩ => ⟨S1x1x16x1, .f32⟩
  | .hbm, ⟨37, _⟩ => ⟨S128x1x16x128, .f32⟩
  | .hbm, ⟨38, _⟩ => ⟨S128x1x16x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S128x1x16x128, .f32⟩
  | .hbm, ⟨43, _⟩ => ⟨S128x1x16x128, .f32⟩
  | .hbm, ⟨44, _⟩ => ⟨S_, .f32⟩
  | .hbm, ⟨45, _⟩ => ⟨S128x1x16x128, .f32⟩
  | .hbm, ⟨46, _⟩ => ⟨S128x1x16x128, .f32⟩
  | .hbm, ⟨47, _⟩ => ⟨S16, .f32⟩
  | .hbm, ⟨48, _⟩ => ⟨S16x1, .f32⟩
  | .hbm, ⟨49, _⟩ => ⟨S1x254, .f32⟩
  | .hbm, ⟨50, _⟩ => ⟨S16x254, .f32⟩
  | .hbm, ⟨51, _⟩ => ⟨S16x254, .f32⟩
  | .hbm, ⟨52, _⟩ => ⟨S16x254, .i1⟩
  | .hbm, ⟨53, _⟩ => ⟨S_, .f32⟩
  | .hbm, ⟨54, _⟩ => ⟨S_, .f32⟩
  | .hbm, ⟨55, _⟩ => ⟨S16x254, .f32⟩
  | .hbm, ⟨56, _⟩ => ⟨S16x254, .f32⟩
  | .hbm, ⟨57, _⟩ => ⟨S16x254, .f32⟩
  | .hbm, ⟨58, _⟩ => ⟨S_, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .i1⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .i1⟩
  | .hbm, ⟨67, _⟩ => ⟨S16, .i1⟩
  | .hbm, ⟨68, _⟩ => ⟨S_, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S128x1x16x128, .f32⟩
  | .hbm, ⟨73, _⟩ => ⟨S16x1, .f32⟩
  | .hbm, ⟨74, _⟩ => ⟨S1x1x16x1, .f32⟩
  | .hbm, ⟨75, _⟩ => ⟨S128x1x16x128, .f32⟩
  | .hbm, ⟨76, _⟩ => ⟨S128x1x16x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S128x1x16x128, .f32⟩
  | .hbm, ⟨81, _⟩ => ⟨S128x1x16x128, .f32⟩
  | .hbm, ⟨82, _⟩ => ⟨S_, .f32⟩
  | .hbm, ⟨83, _⟩ => ⟨S128x1x16x128, .f32⟩
  | .hbm, ⟨84, _⟩ => ⟨S128x1x16x128, .f32⟩
  | .hbm, ⟨85, _⟩ => ⟨S128x1x16x128, .fp8e4m3⟩
  | .hbm, ⟨86, _⟩ => ⟨S128x1x16x128, .fp8e4m3⟩
  | .hbm, ⟨87, _⟩ => ⟨S128x1x16x128, .bf16⟩
  | .hbm, ⟨88, _⟩ => ⟨S128x1x16x128, .bf16⟩
  | .hbm, ⟨89, _⟩ => ⟨S128x2048x16x128, .bf16⟩
  | .hbm, ⟨90, _⟩ => ⟨S128x2048x16x128, .bf16⟩
  | .hbm, ⟨91, _⟩ => ⟨S128x2049x16x128, .bf16⟩
  | .hbm, ⟨92, _⟩ => ⟨S16, .bf16⟩
  | .hbm, ⟨93, _⟩ => ⟨S16x1, .bf16⟩
  | .hbm, ⟨94, _⟩ => ⟨S1x1x16x1, .bf16⟩
  | .hbm, ⟨95, _⟩ => ⟨S128x2049x16x128, .bf16⟩
  | .hbm, ⟨96, _⟩ => ⟨S128x2049x16x128, .bf16⟩
  | .hbm, ⟨97, _⟩ => ⟨S128x2049x16x128, .bf16⟩
  | .hbm, ⟨98, _⟩ => ⟨S16, .bf16⟩
  | .hbm, ⟨99, _⟩ => ⟨S16x1, .bf16⟩
  | .hbm, ⟨100, _⟩ => ⟨S1x1x16x1, .bf16⟩
  | .hbm, ⟨101, _⟩ => ⟨S128x2049x16x128, .bf16⟩
  | .hbm, ⟨102, _⟩ => ⟨S128x2049x16x128, .bf16⟩
  | .hbm, ⟨103, _⟩ => ⟨S128x1x16x8x128, .bf16⟩
  | .hbm, ⟨104, _⟩ => ⟨S128x16x2049x1x8, .f32⟩
  | .hbm, ⟨105, _⟩ => ⟨S128x16x8x1x2049, .f32⟩
  | .hbm, ⟨106, _⟩ => ⟨S_, .f32⟩
  | .hbm, ⟨107, _⟩ => ⟨S128x16x8x1x2049, .f32⟩
  | .hbm, ⟨108, _⟩ => ⟨S128x16x8x1x2049, .f32⟩
  | .hbm, ⟨109, _⟩ => ⟨S_, .f32⟩
  | .hbm, ⟨110, _⟩ => ⟨S128x16x8x1, .f32⟩
  | .hbm, ⟨111, _⟩ => ⟨S128x16x8x1x1, .f32⟩
  | .hbm, ⟨112, _⟩ => ⟨S128x16x8x1x2049, .f32⟩
  | .hbm, ⟨113, _⟩ => ⟨S128x16x8x1x2049, .f32⟩
  | .hbm, ⟨114, _⟩ => ⟨S128x16x8x1x2049, .f32⟩
  | .hbm, ⟨115, _⟩ => ⟨S_, .f32⟩
  | .hbm, ⟨116, _⟩ => ⟨S128x16x8x1, .f32⟩
  | .hbm, ⟨117, _⟩ => ⟨S128x16x8x1x2049, .bf16⟩
  | .hbm, ⟨118, _⟩ => ⟨S128x16x8x1x128, .f32⟩
  | .hbm, ⟨119, _⟩ => ⟨S128x16x8x1x1, .f32⟩
  | .hbm, ⟨120, _⟩ => ⟨S128x16x8x1x128, .f32⟩
  | .hbm, ⟨121, _⟩ => ⟨S128x16x8x1x128, .f32⟩
  | .hbm, ⟨122, _⟩ => ⟨S128x1x16x8x128, .f32⟩
  | .hbm, ⟨123, _⟩ => ⟨S128x128x128, .f32⟩
  | .hbm, ⟨124, _⟩ => ⟨S128x128x128, .bf16⟩
  | .hbm, ⟨125, _⟩ => ⟨S128x16x128, .fp8e4m3⟩
  | .hbm, ⟨126, _⟩ => ⟨S128x16x128, .fp8e4m3⟩
  | .local _ .vmem, ⟨0, _⟩ => ⟨S128x1x16x128, .f32⟩
  | .local _ .vmem, ⟨1, _⟩ => ⟨S128x1x16x128, .f32⟩
  | .local _ .vmem, ⟨2, _⟩ => ⟨S128x2048x16x128, .fp8e4m3⟩
  | .local _ .vmem, ⟨3, _⟩ => ⟨S128x2048x16x128, .fp8e4m3⟩
  | .local _ .vmem, ⟨4, _⟩ => ⟨S128x1x16x128, .fp8e4m3⟩
  | .local _ .vmem, ⟨5, _⟩ => ⟨S128x1x16x128, .fp8e4m3⟩
  | .local _ .vmem, ⟨6, _⟩ => ⟨S128x1x16x128, .bf16⟩
  | .local _ .vmem, ⟨7, _⟩ => ⟨S128x1x16x128, .bf16⟩
  | .local _ .vmem, ⟨8, _⟩ => ⟨S128x2048x16x128, .bf16⟩
  | .local _ .vmem, ⟨9, _⟩ => ⟨S128x2048x16x128, .bf16⟩
  | _, _ => ⟨S128x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v27 : Ref sig .tc := ⟨.hbm, 57, rfl⟩
abbrev main_cst_9 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_call4_v0 : Ref sig .tc := ⟨.hbm, 69, rfl⟩
abbrev main_call4_v1 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_13 : Ref sig .tc := ⟨.hbm, 77, rfl⟩
abbrev main_cst_14 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_call5_v3 : Ref sig .tc := ⟨.hbm, 82, rfl⟩
abbrev main_call5_v4 : Ref sig .tc := ⟨.hbm, 83, rfl⟩
abbrev main_v41 : Ref sig .tc := ⟨.hbm, 84, rfl⟩
abbrev main_v42_0 : Ref sig .tc := ⟨.hbm, 85, rfl⟩
abbrev main_v42_1 : Ref sig .tc := ⟨.hbm, 86, rfl⟩
abbrev main_v42_2 : Ref sig .tc := ⟨.hbm, 87, rfl⟩
abbrev main_v42_3 : Ref sig .tc := ⟨.hbm, 88, rfl⟩
abbrev main_v42_4 : Ref sig .tc := ⟨.hbm, 89, rfl⟩
abbrev main_v42_5 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_15 : Ref sig .tc := ⟨.hbm, 106, rfl⟩
abbrev main_v58 : Ref sig .tc := ⟨.hbm, 107, rfl⟩
abbrev main_v59 : Ref sig .tc := ⟨.hbm, 108, rfl⟩
abbrev main_cst_16 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_17 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S128x1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048x16x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048x16x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1x16x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x16x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1x16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048x16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x2048x16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Block.lean ====
/- What the kernel computes at one grid point, written once for every head and every chunk.

The cache block of one batch is an array of 32768 rows of 128 numbers; row `16 t + h` belongs to token `t` and key/value head `h`.
A chunk `c` is 2048 consecutive rows, i.e. 128 tokens; `groupRows` keeps of it the rows of the four heads `4 r, …, 4 r + 3`.
Heads are worked on in groups of four (`r`), two groups (`i = 0, 1`) to a pair (`p`).  The lane of a score is `4 t' + j`
for token `t'` of the chunk and head `4 r + j`. -/
module

public import proofs.«01_k».proof.Proof.Gen.KernelIdeal.Frame.RunA

@[expose] public section

noncomputable section

namespace Cert.Block

open Idealize.ShloMosaic Idealize.SL.Sem Cert.KernelIdeal Cert.KernelIdeal.Gen

variable {F : FTy → Type} [FloatOps F]

/-- The chunks, in the order in which they are worked on. -/
def chunks : List (Fin 16) := [0, 1, 2, 3, 4, 5, 6, 7, 8, 9, 10, 11, 12, 13, 14, 15]

/-- Group `i` of pair `p`. -/
def group (p i : Fin 2) : Fin 4 := ⟨2 * p + i, by omega⟩

/-- Head `j` of group `r`. -/
def head (r j : Fin 4) : Fin 16 := ⟨4 * r + j, by omega⟩

/-- The rows of chunk `c` lie within the block of past codes. -/
theorem inb_chunk (c : Fin 16) : ∀ a, (![0, 2048 * c.val, 0] : Fin 3 → Nat) a + S1x2048x128.size a ≤ S1x32768x128.size a := by
  revert c; decide
theorem inb_row16 (h : Fin 16) : ∀ a, (![h.val, 0] : Fin 2 → Nat) a + S1x128.size a ≤ S16x128.size a := by revert h; decide
theorem inb_row4 (r : Fin 4) : ∀ a, (![r.val, 0] : Fin 2 → Nat) a + S1x128.size a ≤ S4x128.size a := by revert r; decide
theorem inb_elem (r j : Fin 4) : ∀ a, (![r.val, j.val] : Fin 2 → Nat) a + S1x1.size a ≤ S4x128.size a := by
  revert r j; decide
theorem inb_scr (r : Fin 4) (c : Fin 16) :
    ∀ a, (![r.val, 0, 512 * c.val] : Fin 3 → Nat) a + S1x8x512.size a ≤ S4x8x8192.size a := by revert r c; decide
theorem inb_out (h : Fin 16) : ∀ a, (![0, 8 * h.val, 0] : Fin 3 → Nat) a + S1x8x128.size a ≤ S1x128x128.size a := by
  revert h; decide
theorem sl_queries (p i : Fin 2) : S128x128.Slices ![64 * p.val + 32 * i.val, 0] S32x128 := by revert p i; decide
theorem sl_head (h : Fin 16) : S128x128.Slices ![8 * h.val, 0] S8x128 := by revert h; decide
theorem sl_group (r : Fin 4) : S128x4x4x128.Slices ![0, r.val, 0, 0] S128x1x4x128 := by revert r; decide
theorem sl_rows (i : Fin 2) (j : Fin 4) : S64x512.Slices ![32 * i.val + 8 * j.val, 0] S8x512 := by revert i j; decide
theorem sl_lanes (t : Fin 4) : S8x512.Slices ![0, 128 * t.val] S8x128 := by revert t; decide
theorem sl_acc (i : Fin 2) (j : Fin 4) : S64x256.Slices ![32 * i.val + 8 * j.val, 128 * i.val] S8x128 := by
  revert i j; decide

/-- The number modulo four of each of 512 lanes, and of each of 128. -/
def laneSub : IVec S8x512 32 := andi (iota .tc S8x512 32 [1] iota_S8x512_d1_w32) (broadcast S8x512 3#32)
def laneSub1 : IVec S8x128 32 := extractStridedSlice S8x128 ![0, 0] laneSub slices_S8x512_o0_0_S8x128

/-- The lanes of head `j` of the group. -/
def lanesOf (j : Fin 4) : IVec S8x512 1 := cmpi .eq laneSub (broadcast S8x512 (BitVec.ofNat 32 j.val))
def lanesOf1 (j : Fin 4) : IVec S8x128 1 := cmpi .eq laneSub1 (broadcast S8x128 (BitVec.ofNat 32 j.val))

section
variable (q : Vec F S1x128x128 .bf16) (kss : Vec F S4x128 .f32) (kc vc : Vec F S1x32768x128 .fp8e4m3)
  (kq vq vs : Vec F S16x128 .f32) (scr : Vec F S4x8x8192 .f32)

/-- The queries of the batch, one row per query head. -/
def queries : FVec F S128x128 .bf16 := shapeCast S128x128 q shapeCasts_S1x128x128_S128x128

/-- The queries of the two groups of a pair, side by side and padded with zeros. -/
def lhs (p : Fin 2) : FVec F S64x256 .bf16 :=
  concatenate S64x256 0
    [⟨S32x256, concatenate S32x256 1
        [⟨S32x128, extractStridedSlice S32x128 ![64 * p.val + 32 * (0 : Fin 2).val, 0] (queries q) (sl_queries p 0)⟩,
         ⟨S32x128, broadcast S32x128 (Scalar.ofBits .bf16 0x0000#16)⟩] concatenates_S32x128_S32x128_S32x256_d1⟩,
     ⟨S32x256, concatenate S32x256 1
        [⟨S32x128, broadcast S32x128 (Scalar.ofBits .bf16 0x0000#16)⟩,
         ⟨S32x128, extractStridedSlice S32x128 ![64 * p.val + 32 * (1 : Fin 2).val, 0] (queries q) (sl_queries p 1)⟩]
        concatenates_S32x128_S32x128_S32x256_d1⟩] concatenates_S32x256_S32x256_S64x256_d0

/-- The rows of the heads of group `r` in chunk `c` of a cache block. -/
def groupRows (c : Fin 16) (r : Fin 4) : FVec F S512x128 .fp8e4m3 :=
  shapeCast S512x128
    (shapeCast S128x4x128
      (extractStridedSlice S128x1x4x128 ![0, r.val, 0, 0]
        (shapeCast S128x4x4x128
          (shapeCast S2048x128 (View.ld kc (Rect.unit (s := S1x32768x128) ![0, 2048 * c.val, 0] S1x2048x128.size (inb_chunk c)))
            shapeCasts_S1x2048x128_S2048x128) shapeCasts_S2048x128_S128x4x4x128) (sl_group r))
      shapeCasts_S128x1x4x128_S128x4x128) shapeCasts_S128x4x128_S512x128

/-- The rows of the two groups of a pair, side by side. -/
def pairRows (c : Fin 16) (p : Fin 2) : FVec F S512x256 .fp8e4m3 :=
  concatenate S512x256 1 [⟨S512x128, groupRows kc c (group p 0)⟩, ⟨S512x128, groupRows kc c (group p 1)⟩]
    concatenates_S512x128_S512x128_S512x256_d1

/-- The products of all queries of a pair with all rows of a chunk. -/
def scoreTile (p : Fin 2) (c : Fin 16) : FVec F S64x512 .f32 :=
  matmul dot_S64x256_S512x256_S64x512_1_1_0_0_n_n none (lhs q p) (pairRows kc c p) (constant S64x512 .f32 0x00000000#32)

/-- The eight rows of head `j` of group `i`. -/
def tileRows (p i : Fin 2) (c : Fin 16) (j : Fin 4) : FVec F S8x512 .f32 :=
  extractStridedSlice S8x512 ![32 * i.val + 8 * j.val, 0] (scoreTile q kc p c) (sl_rows i j)

/-- The scale of each lane of a group. -/
def scaleRow (r : Fin 4) : FVec F S1x128 .f32 :=
  shapeCast S1x128 (View.ld kss (Rect.unit (s := S4x128) ![r.val, 0] S1x128.size (inb_row4 r))) shapeCasts_S1x128_S1x128

/-- The scaled scores of group `i` of pair `p` in chunk `c`: every lane takes the rows of its own head. -/
def own (p i : Fin 2) (c : Fin 16) : FVec F S8x512 .f32 :=
  mulf
    (select (lanesOf 0) (tileRows q kc p i c 0)
      (select (lanesOf 1) (tileRows q kc p i c 1)
        (select (lanesOf 2) (tileRows q kc p i c 2) (tileRows q kc p i c 3))))
    (broadcastTo S8x512
      (concatenate S1x512 1
        [⟨S1x128, scaleRow kss (group p i)⟩, ⟨S1x128, scaleRow kss (group p i)⟩, ⟨S1x128, scaleRow kss (group p i)⟩,
         ⟨S1x128, scaleRow kss (group p i)⟩] concatenates_S1x128_S1x128_S1x128_S1x128_S1x512_d1) broadcasts_S1x512_S8x512)

/-- A quarter of the lanes. -/
def quarter (o : FVec F S8x512 .f32) (t : Fin 4) : FVec F S8x128 .f32 :=
  extractStridedSlice S8x128 ![0, 128 * t.val] o (sl_lanes t)

/-- The running maximum of every lane, over all chunks. -/
def laneMax (p i : Fin 2) : FVec F S8x128 .f32 :=
  chunks.foldl (fun m c => maximumf (maximumf (maximumf (maximumf m (quarter (own q kss kc p i c) 0))
    (quarter (own q kss kc p i c) 1)) (quarter (own q kss kc p i c) 2)) (quarter (own q kss kc p i c) 3))
    (broadcast S8x128 (Scalar.ofBits .f32 0xFF800000#32))

/-- The score of the new token for head `j` of group `r`. -/
def newScore (r j : Fin 4) : FVec F S8x1 .f32 :=
  mulf
    (shapeCast S8x1
      (multiReduction .add [1] S8
        (mulf (extf .f32 (extractStridedSlice S8x128 ![8 * (head r j).val, 0] (queries q) (sl_head (head r j))) bitsLt_bf16_f32)
          (broadcastTo S8x128 (View.ld kq (Rect.unit (s := S16x128) ![(head r j).val, 0] S1x128.size (inb_row16 (head r j))))
            broadcasts_S1x128_S8x128))
        0x00000000#32 reduces_S8x128_S8 (.inl rfl) rfl) shapeCasts_S8_S8x1)
    (broadcastTo S8x1
      (shapeCast S1x1 (View.ld kss (Rect.unit (s := S4x128) ![r.val, j.val] S1x1.size (inb_elem r j))) shapeCasts_S1x1_S1x1)
      broadcasts_S1x1_S8x1)

/-- The maximum of all scores of head `j` of group `i`. -/
def headMax (p i : Fin 2) (j : Fin 4) : FVec F S8x1 .f32 :=
  maximumf
    (shapeCast S8x1
      (multiReduction .maximumf [1] S8
        (select (lanesOf1 j) (laneMax q kss kc p i) (broadcast S8x128 (Scalar.ofBits .f32 0xFF800000#32)))
        0xFF800000#32 reduces_S8x128_S8 (.inl rfl) rfl) shapeCasts_S8_S8x1)
    (newScore q kss kq (group p i) j)

/-- The same, on all lanes. -/
def headMaxLanes (p i : Fin 2) (j : Fin 4) : FVec F S8x128 .f32 :=
  broadcastTo S8x128 (shapeCast S8x1 (headMax q kss kc kq p i j) shapeCasts_S8x1_S8x1) broadcasts_S8x1_S8x128

/-- Every lane's maximum, 128 lanes. -/
def maxLanes1 (p i : Fin 2) : FVec F S8x128 .f32 :=
  select (lanesOf1 3) (headMaxLanes q kss kc kq p i 3)
    (select (lanesOf1 2) (headMaxLanes q kss kc kq p i 2)
      (select (lanesOf1 1) (headMaxLanes q kss kc kq p i 1) (headMaxLanes q kss kc kq p i 0)))

/-- Every lane's maximum, 512 lanes. -/
def maxLanes (p i : Fin 2) : FVec F S8x512 .f32 :=
  concatenate S8x512 1
    [⟨S8x128, maxLanes1 q kss kc kq p i⟩, ⟨S8x128, maxLanes1 q kss kc kq p i⟩, ⟨S8x128, maxLanes1 q kss kc kq p i⟩,
     ⟨S8x128, maxLanes1 q kss kc kq p i⟩] concatenates_S8x128_S8x128_S8x128_S8x128_S8x512_d1

/-- The exponentials of chunk `c`, from the scores kept in scratch. -/
def expTile (p i : Fin 2) (c : Fin 16) : FVec F S8x512 .f32 :=
  exp (subf
    (shapeCast S8x512
      (View.ld scr (Rect.unit (s := S4x8x8192) ![(group p i).val, 0, 512 * c.val] S1x8x512.size (inb_scr (group p i) c)))
      shapeCasts_S1x8x512_S8x512) (maxLanes q kss kc kq p i))

/-- The running sum of every lane, over all chunks. -/
def laneSum (p i : Fin 2) : FVec F S8x128 .f32 :=
  chunks.foldl (fun m c => addf (addf (addf (addf m (quarter (expTile q kss kc kq scr p i c) 0))
    (quarter (expTile q kss kc kq scr p i c) 1)) (quarter (expTile q kss kc kq scr p i c) 2))
    (quarter (expTile q kss kc kq scr p i c) 3))
    (broadcast S8x128 (Scalar.ofBits .f32 0x00000000#32))

/-- The exponentials of head `j`, zero on the other lanes. -/
def expHead (p i : Fin 2) (c : Fin 16) (j : Fin 4) : FVec F S8x512 .f32 :=
  select (lanesOf j) (expTile q kss kc kq scr p i c) (broadcast S8x512 (Scalar.ofBits .f32 0x00000000#32))

/-- The exponentials of a pair: one block of eight rows per head. -/
def weightTile (p : Fin 2) (c : Fin 16) : FVec F S64x512 .bf16 :=
  truncf .bf16
    (concatenate S64x512 0
      [⟨S8x512, expHead q kss kc kq scr p 0 c 0⟩, ⟨S8x512, expHead q kss kc kq scr p 0 c 1⟩,
       ⟨S8x512, expHead q kss kc kq scr p 0 c 2⟩, ⟨S8x512, expHead q kss kc kq scr p 0 c 3⟩,
       ⟨S8x512, expHead q kss kc kq scr p 1 c 0⟩, ⟨S8x512, expHead q kss kc kq scr p 1 c 1⟩,
       ⟨S8x512, expHead q kss kc kq scr p 1 c 2⟩, ⟨S8x512, expHead q kss kc kq scr p 1 c 3⟩]
      concatenates_S8x512_S8x512_S8x512_S8x512_S8x512_S8x512_S8x512_S8x512_S64x512_d0) bitsLt_bf16_f32

/-- The weighted sums of the value rows of a pair, over all chunks. -/
def accum (p : Fin 2) : FVec F S64x256 .f32 :=
  chunks.foldl (fun a c => addf a
    (matmul dot_S64x512_S512x256_S64x256_1_0_0_1_n_n none (weightTile q kss kc kq scr p c) (pairRows vc c p)
      (constant S64x256 .f32 0x00000000#32)))
    (broadcast S64x256 (Scalar.ofBits .f32 0x00000000#32))

/-- The exponential of the new token. -/
def newExp (p i : Fin 2) (j : Fin 4) : FVec F S8x1 .f32 :=
  exp (subf (newScore q kss kq (group p i) j) (headMax q kss kc kq p i j))

/-- The sum of all exponentials of a head. -/
def denom (p i : Fin 2) (j : Fin 4) : FVec F S8x1 .f32 :=
  addf
    (shapeCast S8x1
      (multiReduction .add [1] S8
        (select (lanesOf1 j) (laneSum q kss kc kq scr p i) (broadcast S8x128 (Scalar.ofBits .f32 0x00000000#32)))
        0x00000000#32 reduces_S8x128_S8 (.inl rfl) rfl) shapeCasts_S8_S8x1)
    (newExp q kss kc kq p i j)

/-- The output of head `j` of group `i` of pair `p`. -/
def outHead (p i : Fin 2) (j : Fin 4) : FVec F S1x8x128 .bf16 :=
  shapeCast S1x8x128
    (truncf .bf16
      (divf
        (mulf
          (addf
            (extractStridedSlice S8x128 ![32 * i.val + 8 * j.val, 128 * i.val] (accum q kss kc vc kq scr p) (sl_acc i j))
            (mulf
              (broadcastTo S8x128 (extf .f32 (truncf .bf16 (newExp q kss kc kq p i j) bitsLt_bf16_f32) bitsLt_bf16_f32)
                broadcasts_S8x1_S8x128)
              (broadcastTo S8x128
                (View.ld vq (Rect.unit (s := S16x128) ![(head (group p i) j).val, 0] S1x128.size (inb_row16 (head (group p i) j))))
                broadcasts_S1x128_S8x128)))
          (broadcastTo S8x128
            (shapeCast S1x128
              (View.ld vs (Rect.unit (s := S16x128) ![(head (group p i) j).val, 0] S1x128.size (inb_row16 (head (group p i) j))))
              shapeCasts_S1x128_S1x128) broadcasts_S1x128_S8x128))
        (broadcastTo S8x128 (denom q kss kc kq scr p i j) broadcasts_S8x1_S8x128)) bitsLt_bf16_f32)
    shapeCasts_S8x128_S1x8x128

/-- The store of that output. -/
def outPiece (p i : Fin 2) (j : Fin 4) : View.Piece (Elt F) S1x128x128 .bf16 :=
  ⟨Rect.unit (s := S1x128x128) ![0, 8 * (head (group p i) j).val, 0] S1x8x128.size (inb_out (head (group p i) j)),
    outHead q kss kc vc kq vq vs scr p i j⟩

/-- The store of the scores of a chunk. -/
def scrPiece (p i : Fin 2) (c : Fin 16) : View.Piece (Elt F) S4x8x8192 .f32 :=
  ⟨Rect.unit (s := S4x8x8192) ![(group p i).val, 0, 512 * c.val] S1x8x512.size (inb_scr (group p i) c),
    shapeCast S1x8x512 (own q kss kc p i c) shapeCasts_S8x512_S1x8x512⟩

/-- The stores of the output, last first. -/
def outPieces : List (View.Piece (Elt F) S1x128x128 .bf16) :=
  ([1, 0] : List (Fin 2)).flatMap fun p => ([1, 0] : List (Fin 2)).flatMap fun i =>
    ([3, 2, 1, 0] : List (Fin 4)).map fun j => outPiece q kss kc vc kq vq vs scr p i j

/-- The stores of the scores, last first. -/
def scrPieces : List (View.Piece (Elt F) S4x8x8192 .f32) :=
  ([1, 0] : List (Fin 2)).flatMap fun p => chunks.reverse.flatMap fun c =>
    ([1, 0] : List (Fin 2)).map fun i => scrPiece q kss kc p i c

end

end Cert.Block

end
-- ==== Proof.Bridge.lean ====
/- The stores of the kernel at one grid point are those of `Block`: they are the same operations on the same values. -/
module

public import proofs.«01_k».proof.Proof.Block
public import Idealize.ShloMosaic.Lib.Tactic

@[expose] public section

noncomputable section

namespace Cert.Bridge

open Idealize.ShloMosaic Idealize.SL.Sem Cert.KernelIdeal Cert.KernelIdeal.Gen

variable {F : FTy → Type} [FloatOps F]

/-- The queries, as loaded. -/
def loadQ (arg1 : Memref sig .tc .vmem S1x128x128 .bf16) (harg1 : arg1.IsWhole) (x0 : Vec F S1x128x128 .bf16) : Vec F S1x128x128 .bf16 :=
  View.readAt (Elt F) arg1.view (Rect.unit (s := S1x128x128) ![0, 0, 0] S1x128x128.size inb_S1x128x128_S1x128x128_0_0_0).toLoadRect
    (harg1.unread x0)

/-- What a buffer holds. -/
def held {s : Shape} {e : EltTy} (a : Memref sig .tc .vmem s e) (h : a.IsWhole) (x : Vec F s e) : Vec F s e :=
  a.view.read (Elt F) (h.unread x)

/-- What a scratch buffer holds after the stores `L`. -/
def stored {s : Shape} {e : EltTy} (a : Memref sig .tc .vmem s e) (L : List (View.Piece (Elt F) s e)) : Vec F s e :=
  a.view.read (Elt F) (a.view.writes (Elt F) a.view.junk L)

/-- The stores to the score scratch, in the generated form, are those of the loops. -/
theorem scr_eq (c : Dev nD) (arg1 : Memref sig .tc .vmem S1x128x128 .bf16) (harg1 : arg1.IsWhole)
    (arg6 : Memref sig .tc .vmem S4x128 .f32) (harg6 : arg6.IsWhole)
    (arg8 : Memref sig .tc .vmem S1x32768x128 .fp8e4m3) (harg8 : arg8.IsWhole)
    (x0 : Vec F S1x128x128 .bf16) (x5 : Vec F S4x128 .f32) (x7 : Vec F S1x32768x128 .fp8e4m3) :
    kernelRun0_A.sl.HS0_64 c arg1 harg1 arg6 harg6 arg8 harg8 x0 x5 x7
      = Block.scrPieces (loadQ arg1 harg1 x0) (held arg6 harg6 x5) (held arg8 harg8 x7) := by
  sl_kernel_rfl

/-- The stores to the first result's block, in the generated form, are those of the loops. -/
theorem out_eq (c : Dev nD) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x128 .f32) (harg6 : arg6.IsWhole) (arg7 : Memref sig .tc .vmem S16x128 .f32) (harg7 : arg7.IsWhole) (arg8 : Memref sig .tc .vmem S1x32768x128 .fp8e4m3) (harg8 : arg8.IsWhole) (arg9 : Memref sig .tc .vmem S1x32768x128 .fp8e4m3) (harg9 : arg9.IsWhole) (arg10 : Memref sig .tc .vmem S1x128x128 .bf16) (harg10 : arg10.IsWhole) (arg11 : Memref sig .tc .vmem S1x16x128 .fp8e4m3) (harg11 : arg11.IsWhole) (arg12 : Memref sig .tc .vmem S1x16x128 .fp8e4m3) (harg12 : arg12.IsWhole) (arg13 : Memref sig .tc .vmem S4x8x8192 .f32) (harg13 : arg13.IsWhole) (arg14 : Memref sig .tc .vmem S16x128 .f32) (harg14 : arg14.IsWhole) (arg15 : Memref sig .tc .vmem S16x128 .f32) (harg15 : arg15.IsWhole)
    (x0 : Vec F S1x128x128 .bf16) (x1 x2 : Vec F S1x16x128 .bf16) (x3 x4 : Vec F S16x128 .f32) (x5 : Vec F S4x128 .f32) (x6 : Vec F S16x128 .f32) (x7 x8 : Vec F S1x32768x128 .fp8e4m3) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1
      = Block.outPieces (loadQ arg1 harg1 x0) (held arg6 harg6 x5) (held arg8 harg8 x7) (held arg9 harg9 x8)
          (stored arg14 (kernelRun0_A.sl.HS1_1 c arg2 harg2 arg4 harg4 x1 x3))
          (stored arg15 (kernelRun0_A.sl.HS2_1 c arg3 harg3 arg5 harg5 x2 x4))
          (held arg7 harg7 x6)
          (stored arg13 (kernelRun0_A.sl.HS0_64 c arg1 harg1 arg6 harg6 arg8 harg8 x0 x5 x7)) := by
  unfold kernelRun0_A
  dsimp only
  sl_kernel_rfl

end Cert.Bridge

end
-- ==== Proof.BlockScores.lean ====
/- The scores of one grid point, read at one element: a score of the block is the product of a query with a row of the cache,
times the scale of its lane.  The zeros beside the queries and the other heads' rows drop out. -/
module

public import proofs.«01_k».proof.Proof.Block
public import Idealize.ShloMosaic.Lib.Pointwise
public import Idealize.ShloMosaic.Lib.Pipeline.ValueKit.Tiles

@[expose] public section

noncomputable section

namespace Cert.BlockScores

open Idealize.ShloMosaic Idealize.SL.Sem Cert.KernelIdeal Cert.KernelIdeal.Gen Cert.Block
open Idealize.ShloMosaic.Pointwise

variable (q : Vec Ideal S1x128x128 .bf16) (kss : Vec Ideal S4x128 .f32) (kc vc : Vec Ideal S1x32768x128 .fp8e4m3)
  (kq vq vs : Vec Ideal S16x128 .f32) (scr : Vec Ideal S4x8x8192 .f32)

/-- A selection by a decided condition is an `if`. -/
theorem scalar_select_ite {α : Type} (P : Prop) [Decidable P] (a b : α) :
    Scalar.select (if P then 1#1 else 0#1) a b = if P then a else b := by
  split <;> rfl

/-- The mask of a head's lanes, 512 wide: lane `l` belongs to head `l % 4` of its group. -/
theorem lanesOf_apply (j : Fin 4) (g : Fin 8) (l : Fin 512) :
    lanesOf j (ix2 g l) = if l.val % 4 = j.val then 1#1 else 0#1 := by
  pointwise [lanesOf, laneSub]
  revert j l
  decide +kernel

/-- The mask of a head's lanes, 128 wide. -/
theorem lanesOf1_apply (j : Fin 4) (g : Fin 8) (l : Fin 128) :
    lanesOf1 j (ix2 g l) = if l.val % 4 = j.val then 1#1 else 0#1 := by
  pointwise [lanesOf1, laneSub1, laneSub]
  revert j l
  decide +kernel

/-- The left side of a score product: the queries of two head groups, each beside zeros. -/
theorem lhs_apply (p : Fin 2) (n : Fin 64) (k : Fin 256) :
    lhs q p (ix2 n k) =
      if n.val / 32 = k.val / 128 then q (ix3 0 ⟨64 * p.val + n.val, by omega⟩ ⟨k.val % 128, by omega⟩) else 0 := by
  pointwise [lhs, queries]
  by_cases hn : n.val < 32 <;> by_cases hk : k.val < 128 <;> by_cases he : n.val / 32 = k.val / 128 <;>
    simp only [hn, hk, he, ↓reduceDIte, ↓reduceIte] <;>
    first | (exfalso; omega) | rfl | (refine congrArg q ?_; congr 1 <;> (ext; simp; omega))

/-- The right side of a score product: the codes of two head groups side by side. -/
theorem pairRows_apply (p : Fin 2) (c : Fin 16) (l : Fin 512) (k : Fin 256) :
    pairRows kc c p (ix2 l k) = groupRows kc c (group p ⟨k.val / 128, by omega⟩) (ix2 l ⟨k.val % 128, by omega⟩) := by
  pointwise [pairRows]
  by_cases h : k.val < 128
  · rw [dif_pos h]
    have h1 : (⟨k.val / 128, by omega⟩ : Fin 2) = 0 := Fin.ext (by show k.val / 128 = 0; omega)
    have h2 : (⟨k.val % 128, by omega⟩ : Fin 128) = ⟨k.val, h⟩ := Fin.ext (by show k.val % 128 = k.val; omega)
    rw [h1, h2]
  · rw [dif_neg h]
    have h1 : (⟨k.val / 128, by omega⟩ : Fin 2) = 1 := Fin.ext (by show k.val / 128 = 1; omega)
    have h2 : (⟨k.val % 128, by omega⟩ : Fin 128) = ⟨k.val - 128, by omega⟩ := Fin.ext (by show k.val % 128 = k.val - 128; omega)
    rw [h1, h2]

set_option maxRecDepth 4000 in
theorem groupRows_apply (c : Fin 16) (r : Fin 4) (l : Fin 512) (d : Fin 128) :
    groupRows kc c r (ix2 l d) = kc (ix3 0 ⟨2048 * c.val + 16 * (l.val / 4) + 4 * r.val + l.val % 4, by omega⟩ d) := by
  unfold groupRows
  generalize hX : shapeCast S2048x128 (View.ld kc (Rect.unit (s := S1x32768x128) ![0, 2048 * c.val, 0] S1x2048x128.size (inb_chunk c))) shapeCasts_S1x2048x128_S2048x128 = X
  have hX' : ∀ (w : Fin 2048), X (ix2 w d) = kc (ix3 0 ⟨2048 * c.val + w.val, by omega⟩ d) := by
    intro w
    subst hX
    have hZ : ∀ Z : Vec Ideal S1x2048x128 .fp8e4m3, shapeCast S2048x128 Z shapeCasts_S1x2048x128_S2048x128 (ix2 w d) = Z (ix3 0 w d) := by
      intro Z
      pointwise
    rw [hZ]
    exact View.ld_unit_apply_of _ _ _ _ _ _ (by intro a; fin_cases a <;> first | rfl | exact (Nat.zero_add _).symm)
  generalize hY : extractStridedSlice S128x1x4x128 ![0, r.val, 0, 0] (shapeCast S128x4x4x128 X shapeCasts_S2048x128_S128x4x4x128) (sl_group r) = Y
  have hY' : ∀ (t : Fin 128) (j : Fin 4), Y (ix4 t 0 j d) = X (ix2 ⟨16 * t.val + 4 * r.val + j.val, by omega⟩ d) := by
    intro t j
    subst hY
    clear hX hX'
    pointwise
    congr 2
    ext; simp; omega
  have : shapeCast S512x128 (shapeCast S128x4x128 Y shapeCasts_S128x1x4x128_S128x4x128) shapeCasts_S128x4x128_S512x128 (ix2 l d) = Y (ix4 ⟨l.val / 4, by omega⟩ 0 ⟨l.val % 4, by omega⟩ d) := by
    clear hX hY hX' hY'
    pointwise
  rw [this, hY', hX']
  congr 2
  ext; simp; omega

/-- One element of a score product: a sum over one group's 128 columns, the other 128 meeting zeros. -/
theorem scoreTile_sum (p : Fin 2) (c : Fin 16) (n : Fin 64) (l : Fin 512) :
    scoreTile q kc p c (ix2 n l) = ∑ k : Fin 256, lhs q p (ix2 n k) * pairRows kc c p (ix2 l k) := by
  pointwise [scoreTile]

/-- The score, unscaled, of query row `n` of group `i` of a pair against row `l`: the other group's half of the product is zero. -/
theorem scoreTile_apply (p i : Fin 2) (c : Fin 16) (n : Fin 32) (l : Fin 512) :
    scoreTile q kc p c (ix2 ⟨32 * i.val + n.val, by omega⟩ l)
      = ∑ d : Fin 128, q (ix3 0 ⟨64 * p.val + 32 * i.val + n.val, by omega⟩ d) * groupRows kc c (group p i) (ix2 l d) := by
  rw [scoreTile_sum]
  have h : ∀ F : Fin 256 → EReal, ∑ k, F k = ∑ i' : Fin 2, ∑ d : Fin 128, F ⟨128 * i'.val + d.val, by omega⟩ := by
    intro F
    rw [← Fintype.sum_prod_type', ← (finProdFinEquiv (m := 2) (n := 128)).sum_comp]
    refine Finset.sum_congr rfl fun x _ => congrArg F (Fin.ext ?_)
    simp [finProdFinEquiv]; omega
  rw [h]
  rw [Finset.sum_eq_single i]
  · refine Finset.sum_congr rfl fun d _ => ?_
    rw [lhs_apply, pairRows_apply, if_pos (by simp only []; omega)]
    have h1 : (⟨(128 * i.val + d.val) / 128, by omega⟩ : Fin 2) = i := Fin.ext (by simp only []; omega)
    have h2 : (⟨(128 * i.val + d.val) % 128, by omega⟩ : Fin 128) = d := Fin.ext (by simp only []; omega)
    simp only [h1, h2]
    congr 2
    congr 1
    ext; simp; omega
  · intro i' _ hi
    refine Finset.sum_eq_zero fun d _ => ?_
    rw [lhs_apply, if_neg, zero_mul]
    intro h
    apply hi
    ext
    simp only [] at h
    omega
  · simp

/-- The selection of the lanes' own heads, at one lane: the row of the head that the lane belongs to. -/
theorem own_sel (p i : Fin 2) (c : Fin 16) (g : Fin 8) (l : Fin 512) :
    own q kss kc p i c (ix2 g l) = scoreTile q kc p c (ix2 ⟨32 * i.val + 8 * (l.val % 4) + g.val, by omega⟩ l) * kss (ix2 (group p i) ⟨l.val % 128, by omega⟩) := by
  pointwise [own, tileRows, scaleRow, lanesOf_apply]
  simp only [scalar_select_ite]
  congr 1
  · split_ifs <;> (congr 3; omega)
  · split_ifs <;> (congr 3; omega)

/-- The scaled score of query head `8 h + g` against token `t`. -/
def score (h : Fin 16) (g : Fin 8) (t : Fin 2048) : EReal :=
  (∑ d : Fin 128, q (ix3 0 ⟨8 * h.val + g.val, by omega⟩ d) * kc (ix3 0 ⟨16 * t.val + h.val, by omega⟩ d))
    * kss (ix2 ⟨h.val / 4, by omega⟩ ⟨(4 * t.val + h.val % 4) % 128, by omega⟩)

/-- One element of a score tile: the score of the lane's token and head, scaled. -/
theorem own_apply (p i : Fin 2) (c : Fin 16) (g : Fin 8) (l : Fin 512) :
    own q kss kc p i c (ix2 g l)
      = score q kss kc (head (group p i) ⟨l.val % 4, by omega⟩) g ⟨128 * c.val + l.val / 4, by omega⟩ := by
  rw [own_sel]
  have := scoreTile_apply q kc p i c ⟨8 * (l.val % 4) + g.val, by omega⟩ l
  simp only [← Nat.add_assoc] at this
  rw [this]
  unfold score
  congr 1
  · refine Finset.sum_congr rfl fun d _ => ?_
    rw [groupRows_apply]
    congr 3 <;> (ext; simp [head, group]; omega)
  · congr 2 <;> (ext; simp [head, group]; omega)

end Cert.BlockScores
end
-- ==== Proof.BlockSums.lean ====
/- The maxima and sums of one grid point, read at one element: over all tokens, in no particular order. -/
module

public import proofs.«01_k».proof.Proof.BlockScores
public import Idealize.ShloMosaic.Lib.IdealHost

@[expose] public section

noncomputable section

namespace Cert.BlockSums

open Idealize.ShloMosaic Idealize.SL.Sem Cert.KernelIdeal Cert.KernelIdeal.Gen Cert.Block Cert.BlockScores
open Idealize.ShloMosaic.Pointwise

/-! ## Orders of summation -/

/-- The loop over chunks runs over all sixteen. -/
theorem chunks_eq : chunks = List.finRange 16 := by decide

/-- A running maximum is the first value and the largest of the rest. -/
theorem foldl_max {α : Type} (S : α → EReal) (L : List α) (a : EReal) :
    L.foldl (fun a c => max a (S c)) a = max a (L.foldr (fun c b => max (S c) b) ⊥) := by
  induction L generalizing a with
  | nil => simp
  | cons x L ih => rw [List.foldl_cons, ih, List.foldr_cons, max_assoc]

/-- A running sum is the first value and the sum of the rest. -/
theorem foldl_add {α : Type} (S : α → EReal) (L : List α) (a : EReal) :
    L.foldl (fun a c => a + S c) a = a + (L.map S).sum := by
  induction L generalizing a with
  | nil => simp
  | cons x L ih => rw [List.foldl_cons, ih, List.map_cons, List.sum_cons, add_assoc]

/-- When a maximum over a list stays below a bound. -/
theorem foldr_max_le {α : Type} (S : α → EReal) (L : List α) (b : EReal) :
    L.foldr (fun c b => max (S c) b) ⊥ ≤ b ↔ ∀ c ∈ L, S c ≤ b := by
  induction L with
  | nil => simp
  | cons x L ih => simp [ih]

/-- Folding the chunks by `max`: below `b` iff every chunk is. -/
theorem chunks_max_le (S : Fin 16 → EReal) (b : EReal) :
    chunks.foldl (fun a c => max a (S c)) ⊥ ≤ b ↔ ∀ c, S c ≤ b := by
  rw [foldl_max, chunks_eq]
  simp [foldr_max_le]

/-- Folding the chunks by addition. -/
theorem chunks_sum (S : Fin 16 → EReal) : chunks.foldl (fun a c => a + S c) 0 = ∑ c, S c := by
  rw [foldl_add, chunks_eq, zero_add, Fin.sum_univ_def]

/-- A fold over the chunks of vectors, read at an index. -/
theorem foldl_apply {s : Shape} {e : EltTy} (step : Vec Ideal s e → Fin 16 → Vec Ideal s e) (f : Elt Ideal e → Fin 16 → Elt Ideal e)
    (i : s.Idx) (h : ∀ v c, step v c i = f (v i) c) (L : List (Fin 16)) (v : Vec Ideal s e) :
    (L.foldl step v) i = L.foldl f (v i) := by
  induction L generalizing v with
  | nil => rfl
  | cons x L ih => rw [List.foldl_cons, List.foldl_cons, ih, h]

/-- A sum over 512 lanes, in four parts of 128. -/
theorem sum_512_lanes (F : Fin 512 → EReal) : ∑ l, F l = ∑ t : Fin 4, ∑ l : Fin 128, F ⟨128 * t.val + l.val, by omega⟩ := by
  rw [← Fintype.sum_prod_type', ← (finProdFinEquiv (m := 4) (n := 128)).sum_comp]
  refine Finset.sum_congr rfl fun x _ => congrArg F (Fin.ext ?_)
  simp [finProdFinEquiv]; omega

/-- A sum over 512 lanes, token by token and then head by head. -/
theorem sum_512_tokens (F : Fin 512 → EReal) : ∑ l, F l = ∑ u : Fin 128, ∑ j : Fin 4, F ⟨4 * u.val + j.val, by omega⟩ := by
  rw [← Fintype.sum_prod_type', ← (finProdFinEquiv (m := 128) (n := 4)).sum_comp]
  refine Finset.sum_congr rfl fun x _ => congrArg F (Fin.ext ?_)
  simp [finProdFinEquiv]; omega

/-- A sum over 2048 tokens, chunk by chunk. -/
theorem sum_2048 (F : Fin 2048 → EReal) : ∑ t, F t = ∑ c : Fin 16, ∑ u : Fin 128, F ⟨128 * c.val + u.val, by omega⟩ := by
  rw [← Fintype.sum_prod_type', ← (finProdFinEquiv (m := 16) (n := 128)).sum_comp]
  refine Finset.sum_congr rfl fun x _ => congrArg F (Fin.ext ?_)
  simp [finProdFinEquiv]; omega

/-- The lanes of one head, over all chunks, are the tokens. -/
theorem sum_tokens (j : Fin 4) (f : Fin 2048 → EReal) :
    ∑ c : Fin 16, ∑ l : Fin 512, (if l.val % 4 = j.val then f ⟨128 * c.val + l.val / 4, by omega⟩ else 0) = ∑ t, f t := by
  rw [sum_2048]
  refine Finset.sum_congr rfl fun c _ => ?_
  rw [sum_512_tokens]
  refine Finset.sum_congr rfl fun u _ => ?_
  rw [Finset.sum_eq_single j]
  · rw [if_pos (by simp only []; omega)]
    refine congrArg f (Fin.ext ?_)
    simp only []; omega
  · intro b _ hb
    rw [if_neg]
    intro h
    apply hb
    ext
    simp only [] at h
    omega
  · simp

/-- The word of minus infinity is the least extended real. -/
theorem ofBits_neg_inf : Ideal.ofBits .f32 0xFF800000#32 = ⊥ := by
  simp [Ideal.ofBits, Ideal.ieee]

variable (q : Vec Ideal S1x128x128 .bf16) (kss : Vec Ideal S4x128 .f32) (kc vc : Vec Ideal S1x32768x128 .fp8e4m3)
  (kq vq vs : Vec Ideal S16x128 .f32) (scr : Vec Ideal S4x8x8192 .f32)

/-- The score of the new token for query head `8 h + g`. -/
def newTok (h : Fin 16) (g : Fin 8) : EReal :=
  (∑ d : Fin 128, q (ix3 0 ⟨8 * h.val + g.val, by omega⟩ d) * kq (ix2 h d)) * kss (ix2 ⟨h.val / 4, by omega⟩ ⟨h.val % 4, by omega⟩)

/-- The largest of all scores of query head `8 h + g`. -/
def top (h : Fin 16) (g : Fin 8) : EReal :=
  max (Finset.univ.sup fun t : Fin 2048 => score q kss kc h g t) (newTok q kss kq h g)

/-! ## The maxima -/

/-- The running maximum of a lane: the largest of the lane's scores over all chunks. -/
theorem laneMax_apply (p i : Fin 2) (g : Fin 8) (l : Fin 128) :
    laneMax q kss kc p i (ix2 g l) = chunks.foldl (fun a c => max a
      (max (own q kss kc p i c (ix2 g ⟨128 * 0 + l.val, by omega⟩)) (max (own q kss kc p i c (ix2 g ⟨128 * 1 + l.val, by omega⟩))
        (max (own q kss kc p i c (ix2 g ⟨128 * 2 + l.val, by omega⟩)) (own q kss kc p i c (ix2 g ⟨128 * 3 + l.val, by omega⟩)))))) ⊥ := by
  refine (foldl_apply (s := S8x128) (e := .f32) _ (fun a c => max a
      (max (own q kss kc p i c (ix2 g ⟨128 * 0 + l.val, by omega⟩)) (max (own q kss kc p i c (ix2 g ⟨128 * 1 + l.val, by omega⟩))
        (max (own q kss kc p i c (ix2 g ⟨128 * 2 + l.val, by omega⟩)) (own q kss kc p i c (ix2 g ⟨128 * 3 + l.val, by omega⟩))))))
      (ix2 g l) ?_ chunks _).trans ?_
  · intro v c
    pointwise [quarter]
    simp only [max_assoc]
  · refine congrArg (fun z => List.foldl _ z chunks) ?_
    pointwise
    exact ofBits_neg_inf

/-- A lane's maximum over all chunks. -/
theorem laneMax_le (p i : Fin 2) (g : Fin 8) (l : Fin 128) (b : EReal) :
    laneMax q kss kc p i (ix2 g l) ≤ b
      ↔ ∀ (c : Fin 16) (t : Fin 4), own q kss kc p i c (ix2 g ⟨128 * t.val + l.val, by omega⟩) ≤ b := by
  rw [laneMax_apply, chunks_max_le]
  refine forall_congr' fun c => ?_
  simp only [max_le_iff, Fin.forall_fin_succ]
  simp

/-- The score of the new token. -/
theorem newScore_apply (r j : Fin 4) (g : Fin 8) : newScore q kss kq r j (ix2 g 0) = newTok q kss kq (head r j) g := by
  have h : newScore q kss kq r j (ix2 g 0) = (∑ d : Fin 128, q (ix3 0 ⟨8 * (head r j).val + g.val, by omega⟩ d) *
      kq (ix2 (head r j) d)) * kss (ix2 r ⟨j.val, by omega⟩) := by
    pointwise [newScore, queries]
  rw [h, newTok]
  congr 3 <;> exact Fin.ext (by simp only [head]; omega)

/-- The maximum of a head is the largest of its scores. -/
theorem headMax_apply (p i : Fin 2) (j : Fin 4) (g : Fin 8) :
    headMax q kss kc kq p i j (ix2 g 0) = top q kss kc kq (head (group p i) j) g := by
  have h : headMax q kss kc kq p i j (ix2 g 0) = max
      (Finset.fold max (Ideal.ofBits FTy.f32 4286578688#32)
        (fun x : Fin 128 => Scalar.select (if x.val % 4 = j.val then 1#1 else 0#1) (laneMax q kss kc p i (ix2 g x))
            (Ideal.ofBits FTy.f32 4286578688#32)) Finset.univ) (newScore q kss kq (group p i) j (ix2 g 0)) := by
    pointwise [headMax, lanesOf1_apply]
  rw [h, newScore_apply, top]
  congr 1
  refine eq_of_forall_ge_iff fun b => ?_
  rw [Finset.fold_max_le, Finset.sup_le_iff, ofBits_neg_inf]
  simp only [scalar_select_ite, bot_le, true_and, Finset.mem_univ, forall_true_left]
  constructor
  · intro hx t
    have := hx ⟨4 * (t.val % 32) + j.val, by omega⟩
    rw [if_pos (by simp only []; omega), laneMax_le] at this
    have := this ⟨t.val / 128, by omega⟩ ⟨t.val % 128 / 32, by omega⟩
    rw [own_apply] at this
    convert this using 2 <;> exact Fin.ext (by simp only [head]; omega)
  · intro ht x
    split_ifs with hj
    · rw [laneMax_le]
      intro c t
      rw [own_apply]
      convert ht ⟨128 * c.val + (128 * t.val + x.val) / 4, by omega⟩ using 3
      exact Fin.ext (by simp only []; omega)
    · exact bot_le

/-- Every lane holds the maximum of its own head. -/
theorem maxLanes_apply (p i : Fin 2) (g : Fin 8) (l : Fin 512) :
    maxLanes q kss kc kq p i (ix2 g l) = headMax q kss kc kq p i ⟨l.val % 4, by omega⟩ (ix2 g 0) := by
  have h : ∀ k : Nat, ∀ hk : k < 4, (if k = 3 then headMax q kss kc kq p i 3 (ix2 g 0) else
      if k = 2 then headMax q kss kc kq p i 2 (ix2 g 0) else if k = 1 then headMax q kss kc kq p i 1 (ix2 g 0) else
      headMax q kss kc kq p i 0 (ix2 g 0)) = headMax q kss kc kq p i ⟨k, hk⟩ (ix2 g 0) := by
    intro k hk
    match k, hk with
    | 0, _ => rfl
    | 1, _ => rfl
    | 2, _ => rfl
    | 3, _ => rfl
  rw [← h (l.val % 4) (by omega)]
  pointwise [maxLanes, maxLanes1, headMaxLanes, lanesOf1_apply]
  simp only [scalar_select_ite]
  have h1 : 128 ≤ l.val → (l.val - 128) % 4 = l.val % 4 := by omega
  have h2 : 256 ≤ l.val → (l.val - 128 - 128) % 4 = l.val % 4 := by omega
  have h3 : 384 ≤ l.val → (l.val - 128 - 128 - 128) % 4 = l.val % 4 := by omega
  by_cases a : l.val < 128
  · rw [dif_pos a]
  · simp only [dif_neg a, h1 (by omega)]
    by_cases b : l.val - 128 < 128
    · rw [dif_pos b]
    · simp only [dif_neg b, h2 (by omega)]
      by_cases c : l.val - 128 - 128 < 128
      · rw [dif_pos c]
      · simp only [dif_neg c, h3 (by omega)]

/-! ## The weights -/

/-- The weight of token `t` for query head `8 h + g`. -/
def wgt (h : Fin 16) (g : Fin 8) (t : Fin 2048) : EReal := Ideal.exp (score q kss kc h g t - top q kss kc kq h g)

/-- The weight of the new token. -/
def newWgt (h : Fin 16) (g : Fin 8) : EReal := Ideal.exp (newTok q kss kq h g - top q kss kc kq h g)

/-- The scratch array of the scores: lane `4 t + j` of group `r` has token `t` and head `4 r + j`. -/
def ScrOk : Prop := ∀ (r : Fin 4) (g : Fin 8) (l : Fin 8192),
  scr (ix3 r g l) = score q kss kc (head r ⟨l.val % 4, by omega⟩) g ⟨l.val / 4, by omega⟩

variable {q kss kc kq scr}

/-- One element of a tile of weights: the exponential of the score less the head's largest. -/
theorem expTile_apply (hscr : ScrOk q kss kc scr) (p i : Fin 2) (c : Fin 16) (g : Fin 8) (l : Fin 512) :
    expTile q kss kc kq scr p i c (ix2 g l)
      = wgt q kss kc kq (head (group p i) ⟨l.val % 4, by omega⟩) g ⟨128 * c.val + l.val / 4, by omega⟩ := by
  have e : ∀ (Z : FVec Ideal S1x8x512 .f32) (M : FVec Ideal S8x512 .f32),
      exp (subf (shapeCast S8x512 Z shapeCasts_S1x8x512_S8x512) M) (ix2 g l) = Ideal.exp (Z (ix3 0 g l) - M (ix2 g l)) := by
    intro Z M
    pointwise
  unfold expTile
  rw [e, maxLanes_apply, headMax_apply, View.ld_unit_apply_of (i := ix3 (group p i) g ⟨512 * c.val + l.val, by omega⟩), hscr, wgt]
  · congr 3 <;> exact Fin.ext (by simp only [head]; omega)
  · intro a; fin_cases a <;> simp [ix3]

/-- The running sum of a lane: the sum of the lane's weights over all chunks. -/
theorem laneSum_apply (p i : Fin 2) (g : Fin 8) (l : Fin 128) :
    laneSum q kss kc kq scr p i (ix2 g l)
      = ∑ c : Fin 16, ∑ t : Fin 4, expTile q kss kc kq scr p i c (ix2 g ⟨128 * t.val + l.val, by omega⟩) := by
  rw [← chunks_sum]
  refine (foldl_apply (s := S8x128) (e := .f32) _
    (fun a c => a + ∑ t : Fin 4, expTile q kss kc kq scr p i c (ix2 g ⟨128 * t.val + l.val, by omega⟩))
      (ix2 g l) ?_ chunks _).trans ?_
  · intro v c
    rw [Fin.sum_univ_four]
    pointwise [quarter]
    simp only [← add_assoc]
  · refine congrArg (fun z => List.foldl _ z chunks) ?_
    pointwise

/-- The sum of a head's weights. -/
theorem denom_apply (hscr : ScrOk q kss kc scr) (p i : Fin 2) (j : Fin 4) (g : Fin 8) :
    denom q kss kc kq scr p i j (ix2 g 0)
      = (∑ t, wgt q kss kc kq (head (group p i) j) g t) + newWgt q kss kc kq (head (group p i) j) g := by
  have h : denom q kss kc kq scr p i j (ix2 g 0) =
      (∑ x : Fin 128, Scalar.select (if x.val % 4 = j.val then 1#1 else 0#1) (laneSum q kss kc kq scr p i (ix2 g x))
        (Ideal.ofBits .f32 0#32)) + newExp q kss kc kq p i j (ix2 g 0) := by
    pointwise [denom, lanesOf1_apply]
  have hn : newExp q kss kc kq p i j (ix2 g 0) = newWgt q kss kc kq (head (group p i) j) g := by
    rw [newWgt, ← headMax_apply, ← newScore_apply]
    pointwise [newExp]
  rw [h, hn, ← sum_tokens j]
  congr 1
  have hc : ∀ c : Fin 16, (∑ l : Fin 512, if l.val % 4 = j.val then
        wgt q kss kc kq (head (group p i) j) g ⟨128 * c.val + l.val / 4, by omega⟩ else 0)
      = ∑ l : Fin 128, ∑ t : Fin 4, if l.val % 4 = j.val then
          expTile q kss kc kq scr p i c (ix2 g ⟨128 * t.val + l.val, by omega⟩) else 0 := by
    intro c
    rw [sum_512_lanes, Finset.sum_comm]
    refine Finset.sum_congr rfl fun l _ => Finset.sum_congr rfl fun t _ => ?_
    by_cases hj : l.val % 4 = j.val
    · rw [if_pos hj, if_pos (by simp only []; omega), expTile_apply hscr]
      congr 2
      exact Fin.ext (by simp only []; omega)
    · rw [if_neg hj, if_neg (by simp only []; omega)]
  rw [Finset.sum_congr rfl fun c _ => hc c, Finset.sum_comm]
  refine Finset.sum_congr rfl fun l _ => ?_
  rw [scalar_select_ite, laneSum_apply, Ideal.ofBits_zero_f32]
  split_ifs <;> simp

end Cert.BlockSums

end
-- ==== Proof.BlockOut.lean ====
/- The stores of one grid point: the score scratch, and the output block. -/
module

public import proofs.«01_k».proof.Proof.BlockSums

@[expose] public section

noncomputable section

namespace Cert.BlockOut

open Idealize.ShloMosaic Idealize.SL.Sem Cert.KernelIdeal Cert.KernelIdeal.Gen Cert.Block Cert.BlockScores Cert.BlockSums
open Idealize.ShloMosaic.Pointwise

variable {q : Vec Ideal S1x128x128 .bf16} {kss : Vec Ideal S4x128 .f32} {kc vc : Vec Ideal S1x32768x128 .fp8e4m3}
  {kq vq vs : Vec Ideal S16x128 .f32} {scr : Vec Ideal S4x8x8192 .f32}

/-- Every chunk is in the loop. -/
theorem mem_chunks (c : Fin 16) : c ∈ chunks := by revert c; decide

/-- The scores by their place in scratch. -/
def scrAt (q : Vec Ideal S1x128x128 .bf16) (kss : Vec Ideal S4x128 .f32) (kc : Vec Ideal S1x32768x128 .fp8e4m3)
    (r : Fin 4) (g : Fin 8) (l : Fin 8192) : EReal :=
  score q kss kc (head r ⟨l.val % 4, by omega⟩) g ⟨l.val / 4, by omega⟩

/-- The store of one chunk's scores. -/
theorem scrPiece_apply (p i : Fin 2) (c : Fin 16) (x : S1x8x512.Idx) :
    shapeCast S1x8x512 (own q kss kc p i c) shapeCasts_S8x512_S1x8x512 x
      = scrAt q kss kc (group p i) (x 1) ⟨512 * c.val + (x 2).val, by have := (x 2).isLt; simp at this; omega⟩ := by
  obtain ⟨z, g, l, rfl⟩ : ∃ (z : Fin 1) (g : Fin 8) (l : Fin 512), x = ix3 z g l := ⟨x 0, x 1, x 2, (ix3_eta x).symm⟩
  have h : ∀ V : FVec Ideal S8x512 .f32, shapeCast S1x8x512 V shapeCasts_S8x512_S1x8x512 (ix3 z g l) = V (ix2 g l) := by
    intro V
    pointwise
  rw [h, own_apply]
  unfold scrAt
  congr 2
  · exact Fin.ext (by show l.val % 4 = (512 * c.val + l.val) % 4; omega)
  · show 128 * c.val + l.val / 4 = (512 * c.val + l.val) / 4
    omega

/-- The scratch array that the stores leave. -/
theorem scr_ok : ScrOk q kss kc (View.canon (scrPieces q kss kc)) := by
  intro r g l
  refine (View.canon_apply_of_pieces (fun idx : S4x8x8192.Idx => scrAt q kss kc (idx 0) (idx 1) (idx 2))
    (scrPieces q kss kc) ?_ (ix3 r g l) ?_).trans rfl
  · intro P hP x
    simp only [scrPieces, List.mem_flatMap, List.mem_map] at hP
    obtain ⟨p, -, c, -, i, -, rfl⟩ := hP
    refine (scrPiece_apply p i c x).trans ?_
    have e : ∀ a, ((scrPiece q kss kc p i c).1.emb x a).val = (![(group p i).val, 0, 512 * c.val] : Fin 3 → Nat) a + (x a).val :=
      Rect.idx_unit_val _ _ (inb_scr (group p i) c) x
    have h0 : (x 0).val < 1 := (x 0).isLt
    congr 1
    · exact Fin.ext (by rw [e]; simp; omega)
    · exact Fin.ext (by rw [e]; simp)
    · exact Fin.ext (by rw [e]; simp)
  · refine ⟨scrPiece q kss kc ⟨r.val / 2, by omega⟩ ⟨r.val % 2, by omega⟩ ⟨l.val / 512, by omega⟩, ?_, ?_⟩
    · simp only [scrPieces, List.mem_flatMap, List.mem_map]
      refine ⟨_, ?_, _, List.mem_reverse.2 (mem_chunks _), _, ?_, rfl⟩
      · generalize (⟨r.val / 2, _⟩ : Fin 2) = z
        revert z; decide
      · generalize (⟨r.val % 2, _⟩ : Fin 2) = z
        revert z; decide
    · refine (Rect.mem_set_unit (inb := inb_scr _ _)).2 fun a => ?_
      fin_cases a <;> simp [group, ix3] <;> omega

/-- The weights of a pair, one row per query head and one lane per token of either group's head. -/
theorem weightTile_apply (hscr : ScrOk q kss kc scr) (p i : Fin 2) (j : Fin 4) (c : Fin 16) (g : Fin 8) (l : Fin 512) :
    weightTile q kss kc kq scr p c (ix2 ⟨32 * i.val + 8 * j.val + g.val, by omega⟩ l)
      = if l.val % 4 = j.val then wgt q kss kc kq (head (group p i) j) g ⟨128 * c.val + l.val / 4, by omega⟩ else 0 := by
  have h : (if l.val % 4 = j.val then wgt q kss kc kq (head (group p i) j) g ⟨128 * c.val + l.val / 4, by omega⟩ else 0)
      = if l.val % 4 = j.val then expTile q kss kc kq scr p i c (ix2 g l) else 0 := by
    split_ifs with hj
    · rw [expTile_apply hscr]
      congr 2
      exact Fin.ext hj.symm
    · rfl
  have aux : ∀ i' : Fin 2, i'.val = i.val → ∀ g' : Fin 8, g'.val = g.val →
      expTile q kss kc kq scr p i' c (ix2 g' l) = expTile q kss kc kq scr p i c (ix2 g l) := by
    intro i' hi g' hg
    rw [Fin.ext hi, Fin.ext hg]
  rw [h]
  pointwise [weightTile, expHead, lanesOf_apply]
  simp only [scalar_select_ite, Ideal.ofBits_zero_f32]
  rcases (by omega : i.val = 0 ∨ i.val = 1) with hi | hi <;>
  rcases (by omega : j.val = 0 ∨ j.val = 1 ∨ j.val = 2 ∨ j.val = 3) with hj | hj | hj | hj <;>
  · repeat' first | rw [dif_pos (by omega)] | rw [dif_neg (by omega)]
    exact if_congr (by rw [hj]) (aux _ hi.symm _ (by simp only []; omega)) rfl

/-- The weighted sum of the value rows of one head. -/
theorem accum_apply (hscr : ScrOk q kss kc scr) (p i : Fin 2) (j : Fin 4) (g : Fin 8) (d : Fin 128) :
    accum q kss kc vc kq scr p (ix2 ⟨32 * i.val + 8 * j.val + g.val, by omega⟩ ⟨128 * i.val + d.val, by omega⟩)
      = ∑ t : Fin 2048, wgt q kss kc kq (head (group p i) j) g t
          * vc (ix3 0 ⟨16 * t.val + (head (group p i) j).val, by omega⟩ d) := by
  rw [← sum_tokens j, ← chunks_sum]
  refine (foldl_apply (s := S64x256) (e := .f32) _
    (fun a c => a + ∑ l : Fin 512, if l.val % 4 = j.val then
      wgt q kss kc kq (head (group p i) j) g ⟨128 * c.val + l.val / 4, by omega⟩
          * vc (ix3 0 ⟨16 * (128 * c.val + l.val / 4) + (head (group p i) j).val, by omega⟩ d) else 0)
      _ ?_ chunks _).trans ?_
  · intro v c
    have hm : ∀ (A : FVec Ideal S64x512 .bf16) (B : FVec Ideal S512x256 .fp8e4m3) (r : Fin 64) (k : Fin 256),
        matmul dot_S64x512_S512x256_S64x256_1_0_0_1_n_n none A B (constant S64x256 .f32 0x00000000#32) (ix2 r k)
          = ∑ l : Fin 512, A (ix2 r l) * B (ix2 l k) := by
      intro A B r k
      pointwise
    have ha : ∀ (A B : FVec Ideal S64x256 .f32) (x : S64x256.Idx), addf A B x = A x + B x := fun _ _ _ => rfl
    rw [ha, hm]
    congr 1
    refine Finset.sum_congr rfl fun l _ => ?_
    rw [weightTile_apply hscr, pairRows_apply, groupRows_apply, ite_mul, zero_mul]
    split_ifs with hj
    · congr 2
      congr 1
      · exact Fin.ext (by simp only [head, group]; omega)
      · exact Fin.ext (by simp only []; omega)
    · rfl
  · refine congrArg (fun z => List.foldl _ z chunks) ?_
    pointwise

/-- The value of the output at query head `8 h + g`, component `d`. -/
def outAt (q : Vec Ideal S1x128x128 .bf16) (kss : Vec Ideal S4x128 .f32) (kc vc : Vec Ideal S1x32768x128 .fp8e4m3)
    (kq vq vs : Vec Ideal S16x128 .f32) (h : Fin 16) (g : Fin 8) (d : Fin 128) : EReal :=
  Ideal.div
    (((∑ t : Fin 2048, wgt q kss kc kq h g t * vc (ix3 0 ⟨16 * t.val + h.val, by omega⟩ d))
      + newWgt q kss kc kq h g * vq (ix2 h d)) * vs (ix2 h d))
    ((∑ t, wgt q kss kc kq h g t) + newWgt q kss kc kq h g)

/-- One element of a head's rows of the first result. -/
theorem outHead_apply (hscr : ScrOk q kss kc scr) (p i : Fin 2) (j : Fin 4) (z : Fin 1) (g : Fin 8) (d : Fin 128) :
    outHead q kss kc vc kq vq vs scr p i j (ix3 z g d) = outAt q kss kc vc kq vq vs (head (group p i) j) g d := by
  have hn : newExp q kss kc kq p i j (ix2 g 0) = newWgt q kss kc kq (head (group p i) j) g := by
    rw [newWgt, ← headMax_apply, ← newScore_apply]
    pointwise [newExp]
  have h : outHead q kss kc vc kq vq vs scr p i j (ix3 z g d) = Ideal.div
      ((accum q kss kc vc kq scr p (ix2 ⟨32 * i.val + 8 * j.val + g.val, by omega⟩ ⟨128 * i.val + d.val, by omega⟩)
        + newExp q kss kc kq p i j (ix2 g 0) * vq (ix2 (head (group p i) j) d)) * vs (ix2 (head (group p i) j) d))
      (denom q kss kc kq scr p i j (ix2 g 0)) := by
    pointwise [outHead]
  rw [h, hn, accum_apply hscr, denom_apply hscr, outAt]

/-- A head is given by its pair of groups, its group in the pair and its place in the group. -/
theorem head_group (h : Fin 16) : head (group ⟨h.val / 8, by omega⟩ ⟨h.val / 4 % 2, by omega⟩) ⟨h.val % 4, by omega⟩ = h :=
  Fin.ext (by simp only [head, group]; omega)

/-- The output block that the stores leave. -/
theorem out_apply (hscr : ScrOk q kss kc scr) (h : Fin 16) (g : Fin 8) (d : Fin 128) :
    View.canon (outPieces q kss kc vc kq vq vs scr) (ix3 0 ⟨8 * h.val + g.val, by omega⟩ d)
      = outAt q kss kc vc kq vq vs h g d := by
  refine (View.canon_apply_of_pieces
    (fun idx : S1x128x128.Idx => outAt q kss kc vc kq vq vs ⟨(idx 1).val / 8, by have := (idx 1).isLt; simp at this; omega⟩
      ⟨(idx 1).val % 8, by omega⟩ (idx 2)) (outPieces q kss kc vc kq vq vs scr) ?_ _ ?_).trans ?_
  · intro P hP x
    simp only [outPieces, List.mem_flatMap, List.mem_map] at hP
    obtain ⟨p, -, i, -, j, -, rfl⟩ := hP
    have e : ∀ a, ((outPiece q kss kc vc kq vq vs scr p i j).1.emb x a).val
        = (![0, 8 * (head (group p i) j).val, 0] : Fin 3 → Nat) a + (x a).val := Rect.idx_unit_val _ _ (inb_out (head (group p i) j)) x
    have h1 : (x 1).val < 8 := (x 1).isLt
    have e1 : ((outPiece q kss kc vc kq vq vs scr p i j).1.emb x 1).val = 8 * (head (group p i) j).val + (x 1).val := e 1
    have e2 : ((outPiece q kss kc vc kq vq vs scr p i j).1.emb x 2).val = (x 2).val := (e 2).trans (Nat.zero_add _)
    refine ((congrArg (outHead q kss kc vc kq vq vs scr p i j) (eq_ix3 x)).trans (outHead_apply hscr p i j _ _ _)).trans ?_
    congr 1
    · exact Fin.ext (by simp only []; omega)
    · exact Fin.ext (by simp only []; omega)
    · exact Fin.ext e2.symm
  · refine ⟨outPiece q kss kc vc kq vq vs scr ⟨h.val / 8, by omega⟩ ⟨h.val / 4 % 2, by omega⟩ ⟨h.val % 4, by omega⟩, ?_, ?_⟩
    · simp only [outPieces, List.mem_flatMap, List.mem_map]
      refine ⟨_, ?_, _, ?_, _, ?_, rfl⟩
      · generalize (⟨h.val / 8, _⟩ : Fin 2) = z
        revert z; decide
      · generalize (⟨h.val / 4 % 2, _⟩ : Fin 2) = z
        revert z; decide
      · generalize (⟨h.val % 4, _⟩ : Fin 4) = z
        revert z; decide
    · refine (Rect.mem_set_unit (inb := inb_out _)).2 fun a => ?_
      rw [head_group]
      fin_cases a <;> simp [ix3]
  · simp only [ix3]
    congr 1 <;> first | rfl | exact Fin.ext (by simp; try omega)

end Cert.BlockOut

end
-- ==== Proof.Equation.lean ====
/- The equation of the claim, for one query head: the kernel's form of attention and the reference's are the same number,
when the two scales are real and not negative. -/
module

public import proofs.«01_k».proof.Proof.BlockSums

@[expose] public section

noncomputable section

namespace Cert.Equation

open Idealize.ShloMosaic

/-- The code of a number: scaled by the inverse scale and clipped to what an fp8 number can hold. -/
def codeOf (v inv : EReal) : EReal :=
  min (Ideal.ofBits .f32 0x43E00000#32) (max (Ideal.ofBits .f32 0xC3E00000#32) (v * inv))

/-- A factor that is real and not negative may be taken out of a sum, whatever the summands. -/
theorem sum_mul {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

variable (q kn vn : Fin 128 → EReal) (kc vc : Fin 2048 → Fin 128 → EReal) (ks vs C : EReal)

/-! ## The kernel's form: products of codes first, the scales afterwards -/

/-- The score of past token `t`. -/
def kPast (t : Fin 2048) : EReal := (∑ d, q d * kc t d) * (ks * C)

/-- The score of the new token. -/
def kNew : EReal := (∑ d, q d * kn d) * (ks * C)

/-- The largest score. -/
def kTop : EReal := max (Finset.univ.sup fun t => kPast q kc ks C t) (kNew q kn ks C)

/-- The kernel's output for component `d`. -/
def kOut (d : Fin 128) : EReal :=
  Ideal.div
    (((∑ t, Ideal.exp (kPast q kc ks C t - kTop q kn kc ks C) * vc t d)
      + Ideal.exp (kNew q kn ks C - kTop q kn kc ks C) * vn d) * vs)
    ((∑ t, Ideal.exp (kPast q kc ks C t - kTop q kn kc ks C)) + Ideal.exp (kNew q kn ks C - kTop q kn kc ks C))

/-! ## The reference's form: every code is scaled, then plain attention over all 2049 tokens -/

/-- The rows of all tokens: those of the past, then the new one; scaled. -/
def rows (past : Fin 2048 → Fin 128 → EReal) (cur : Fin 128 → EReal) (sc : EReal) (t : Fin 2049) (d : Fin 128) : EReal :=
  (if h : t.val < 2048 then past ⟨t.val, h⟩ d else cur d) * sc

/-- The score of token `t`. -/
def rScore (t : Fin 2049) : EReal := (∑ d, rows kc kn ks t d * q d) * C

/-- The weight of token `t`. -/
def rWeight (t : Fin 2049) : EReal :=
  Ideal.exp (rScore q kn kc ks C t
    - Finset.fold max (Ideal.ofBits .f32 0xFF800000#32) (fun u => rScore q kn kc ks C u) Finset.univ)

/-- The reference's output for component `d`. -/
def rOut (d : Fin 128) : EReal :=
  Ideal.div (∑ t, rWeight q kn kc ks C t * rows vc vn vs t d) (∑ t, rWeight q kn kc ks C t)

/-! ## They agree -/

variable {ks vs}

/-- The reference's score of a past token is the kernel's. -/
theorem rScore_past (h0 : 0 ≤ ks) (ht : ks ≠ ⊤) (t : Fin 2048) : rScore q kn kc ks C t.castSucc = kPast q kc ks C t := by
  have h : ∀ d, rows kc kn ks t.castSucc d * q d = q d * kc t d * ks := by
    intro d
    rw [rows, dif_pos (show t.castSucc.val < 2048 from t.isLt), mul_comm, mul_assoc]
    rfl
  rw [rScore, kPast, Finset.sum_congr rfl fun d _ => h d, sum_mul _ _ h0 ht, mul_assoc]

/-- The reference's score of the new token is the kernel's. -/
theorem rScore_new (h0 : 0 ≤ ks) (ht : ks ≠ ⊤) : rScore q kn kc ks C (Fin.last 2048) = kNew q kn ks C := by
  have h : ∀ d, rows kc kn ks (Fin.last 2048) d * q d = q d * kn d * ks := by
    intro d
    rw [rows, dif_neg (by simp), mul_comm, mul_assoc]
  rw [rScore, kNew, Finset.sum_congr rfl fun d _ => h d, sum_mul _ _ h0 ht, mul_assoc]

/-- The two largest scores are equal. -/
theorem top_eq (h0 : 0 ≤ ks) (ht : ks ≠ ⊤) :
    Finset.fold max (Ideal.ofBits .f32 0xFF800000#32) (fun u => rScore q kn kc ks C u) Finset.univ = kTop q kn kc ks C := by
  refine eq_of_forall_ge_iff fun b => ?_
  rw [Finset.fold_max_le, BlockSums.ofBits_neg_inf, kTop, max_le_iff, Finset.sup_le_iff]
  simp only [bot_le, true_and, Finset.mem_univ, forall_true_left]
  rw [Fin.forall_fin_succ', rScore_new q kn kc C h0 ht]
  simp only [rScore_past q kn kc C h0 ht]

/-- The reference's weight of a past token is the kernel's. -/
theorem rWeight_past (h0 : 0 ≤ ks) (ht : ks ≠ ⊤) (t : Fin 2048) :
    rWeight q kn kc ks C t.castSucc = Ideal.exp (kPast q kc ks C t - kTop q kn kc ks C) := by
  rw [rWeight, top_eq q kn kc C h0 ht, rScore_past q kn kc C h0 ht]

/-- The reference's weight of the new token is the kernel's. -/
theorem rWeight_new (h0 : 0 ≤ ks) (ht : ks ≠ ⊤) :
    rWeight q kn kc ks C (Fin.last 2048) = Ideal.exp (kNew q kn ks C - kTop q kn kc ks C) := by
  rw [rWeight, top_eq q kn kc C h0 ht, rScore_new q kn kc C h0 ht]

/-- The two forms of attention are the same number, when both scales are real and not negative. -/
theorem kOut_eq_rOut (h0 : 0 ≤ ks) (ht : ks ≠ ⊤) (h0' : 0 ≤ vs) (ht' : vs ≠ ⊤) (d : Fin 128) :
    kOut q kn vn kc vc ks vs C d = rOut q kn vn kc vc ks vs C d := by
  have hw : ∀ t, rWeight q kn kc ks C t * rows vc vn vs t d
      = (rWeight q kn kc ks C t * if h : t.val < 2048 then vc ⟨t.val, h⟩ d else vn d) * vs := by
    intro t
    rw [rows, mul_assoc]
  rw [rOut, kOut, Finset.sum_congr rfl fun t _ => hw t, sum_mul _ _ h0' ht', Fin.sum_univ_castSucc (n := 2048),
    Fin.sum_univ_castSucc (n := 2048), rWeight_new q kn kc C h0 ht, dif_neg (by simp)]
  have hv : ∀ t : Fin 2048, (if h : t.castSucc.val < 2048 then vc ⟨t.castSucc.val, h⟩ d else vn d) = vc t d :=
    fun t => dif_pos t.isLt
  simp only [rWeight_past q kn kc C h0 ht, hv]

end Cert.Equation

end
-- ==== Proof.PointValue.lean ====
/- What one grid point leaves in the three output blocks, from the blocks of the nine inputs. -/
module

public import proofs.«01_k».proof.Proof.Bridge
public import proofs.«01_k».proof.Proof.BlockOut
public import proofs.«01_k».proof.Proof.Equation
public import proofs.«01_k».proof.Proof.Gen.KernelIdeal.Value
public import Idealize.ShloMosaic.Lib.Pipeline.ValueKit.Geometry

@[expose] public section

noncomputable section

namespace Cert.PointValue

open Idealize.ShloMosaic Idealize.SL.Sem Cert.KernelIdeal Cert.KernelIdeal.Gen Cert.Block Cert.BlockScores Cert.BlockSums
open Cert.BlockOut Cert.Bridge Idealize.ShloMosaic.Pointwise
open Cert.Equation (codeOf)

/-- The start of a whole block of two axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## Loads of whole buffers -/

/-- A block of new vectors, as loaded. -/
def loadN (a : Memref sig .tc .vmem S1x16x128 .bf16) (h : a.IsWhole) (x : Vec Ideal S1x16x128 .bf16) : Vec Ideal S1x16x128 .bf16 :=
  View.readAt (Elt Ideal) a.view (Rect.unit (s := S1x16x128) ![0, 0, 0] S1x16x128.size inb_S1x16x128_S1x16x128_0_0_0).toLoadRect
    (h.unread x)

/-- The inverse scales, as loaded. -/
def loadI (a : Memref sig .tc .vmem S16x128 .f32) (h : a.IsWhole) (x : Vec Ideal S16x128 .f32) : Vec Ideal S16x128 .f32 :=
  View.readAt (Elt Ideal) a.view (Rect.unit (s := S16x128) ![0, 0] S16x128.size inb_S16x128_S16x128_0_0).toLoadRect (h.unread x)

/-- Loading the whole block of queries gives it. -/
theorem loadQ_eq (a : Memref sig .tc .vmem S1x128x128 .bf16) (h : a.IsWhole) (x : Vec Ideal S1x128x128 .bf16) : loadQ a h x = x := by
  unfold loadQ
  rw [View.readAt_eq_ld, h.read_unread, View.ld_unit_zero hz3]

/-- Loading the whole block of a new token gives it. -/
theorem loadN_eq (a : Memref sig .tc .vmem S1x16x128 .bf16) (h : a.IsWhole) (x : Vec Ideal S1x16x128 .bf16) : loadN a h x = x := by
  unfold loadN
  rw [View.readAt_eq_ld, h.read_unread, View.ld_unit_zero hz3]

/-- Loading the whole block of inverse scales gives it. -/
theorem loadI_eq (a : Memref sig .tc .vmem S16x128 .f32) (h : a.IsWhole) (x : Vec Ideal S16x128 .f32) : loadI a h x = x := by
  unfold loadI
  rw [View.readAt_eq_ld, h.read_unread, View.ld_unit_zero hz2]

/-- What a buffer holds is what was put there. -/
theorem held_eq {s : Shape} {e : EltTy} (a : Memref sig .tc .vmem s e) (h : a.IsWhole) (x : Vec Ideal s e) : held a h x = x :=
  h.read_unread x

/-- What a scratch buffer holds after stores is what the stores leave. -/
theorem stored_eq {s : Shape} {e : EltTy} (a : Memref sig .tc .vmem s e) (L : List (View.Piece (Elt Ideal) s e)) :
    stored a L = View.canon L :=
  funext fun y => View.read_writes_junk_apply_eq_canon _ y L

/-! ## The codes of the new token -/

/-- One key code of the new token, as kept in the scratch. -/
theorem pay6_apply (x : Vec Ideal S1x16x128 .bf16) (v : Vec Ideal S16x128 .f32) (h : Fin 16) (d : Fin 128) :
    k0_pay6 x v (ix2 h d) = codeOf (x (ix3 0 h d)) (v (ix2 h d)) := by
  unfold codeOf
  pointwise [k0_pay6, k0_pay2]

/-- One value code of the new token, as kept in the scratch. -/
theorem pay8_apply (x : Vec Ideal S1x16x128 .bf16) (v : Vec Ideal S16x128 .f32) (h : Fin 16) (d : Fin 128) :
    k0_pay8 (k0_pay7 x v) (ix2 h d) = codeOf (x (ix3 0 h d)) (v (ix2 h d)) := by
  unfold codeOf
  pointwise [k0_pay8, k0_pay7, k0_pay3]

/-- One key code of the new token, as stored. -/
theorem pay4_apply (x : Vec Ideal S1x16x128 .bf16) (v : Vec Ideal S16x128 .f32) (z : Fin 1) (h : Fin 16) (d : Fin 128) :
    k0_pay4 x v (ix3 z h d) = codeOf (x (ix3 0 h d)) (v (ix2 h d)) := by
  unfold codeOf
  pointwise [k0_pay4, k0_pay2]

/-- One value code of the new token, as stored. -/
theorem pay5_apply (x : Vec Ideal S1x16x128 .bf16) (v : Vec Ideal S16x128 .f32) (z : Fin 1) (h : Fin 16) (d : Fin 128) :
    k0_pay5 x v (ix3 z h d) = codeOf (x (ix3 0 h d)) (v (ix2 h d)) := by
  unfold codeOf
  pointwise [k0_pay5, k0_pay3]

/-- The scratch array of the new keys' codes. -/
theorem kq_eq (c : Dev nD) (arg2 : Memref sig .tc .vmem S1x16x128 .bf16) (harg2 : arg2.IsWhole) (arg4 : Memref sig .tc .vmem S16x128 .f32)
    (harg4 : arg4.IsWhole) (arg14 : Memref sig .tc .vmem S16x128 .f32) (x1 : Vec Ideal S1x16x128 .bf16) (x3 : Vec Ideal S16x128 .f32) :
    stored arg14 (kernelRun0_A.sl.HS1_1 c arg2 harg2 arg4 harg4 x1 x3) = k0_pay6 x1 x3 := by
  have h : kernelRun0_A.sl.HS1_1 c arg2 harg2 arg4 harg4 x1 x3
      = [⟨Rect.unit (s := S16x128) ![0, 0] S16x128.size inb_S16x128_S16x128_0_0, k0_pay6 (loadN arg2 harg2 x1) (loadI arg4 harg4 x3)⟩] := by
    sl_kernel_rfl
  rw [h, stored_eq, View.canon_unit_zero hz2, loadN_eq, loadI_eq]

/-- The scratch array of the new values' codes. -/
theorem vq_eq (c : Dev nD) (arg3 : Memref sig .tc .vmem S1x16x128 .bf16) (harg3 : arg3.IsWhole) (arg5 : Memref sig .tc .vmem S16x128 .f32)
    (harg5 : arg5.IsWhole) (arg15 : Memref sig .tc .vmem S16x128 .f32) (x2 : Vec Ideal S1x16x128 .bf16) (x4 : Vec Ideal S16x128 .f32) :
    stored arg15 (kernelRun0_A.sl.HS2_1 c arg3 harg3 arg5 harg5 x2 x4) = k0_pay8 (k0_pay7 x2 x4) := by
  have h : kernelRun0_A.sl.HS2_1 c arg3 harg3 arg5 harg5 x2 x4
      = [⟨Rect.unit (s := S16x128) ![0, 0] S16x128.size inb_S16x128_S16x128_0_0,
          k0_pay8 (k0_pay7 (loadN arg3 harg3 x2) (loadI arg5 harg5 x4))⟩] := by
    sl_kernel_rfl
  rw [h, stored_eq, View.canon_unit_zero hz2, loadN_eq, loadI_eq]

/-! ## The blocks -/

section
variable (c : Dev nD) (i : grid0.Coords) (arg1 : Memref sig .tc .vmem S1x128x128 .bf16) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S16x128 .f32) (harg4 : arg4.IsWhole) (arg5 : Memref sig .tc .vmem S16x128 .f32) (harg5 : arg5.IsWhole) (arg6 : Memref sig .tc .vmem S4x128 .f32) (harg6 : arg6.IsWhole) (arg7 : Memref sig .tc .vmem S16x128 .f32) (harg7 : arg7.IsWhole) (arg8 : Memref sig .tc .vmem S1x32768x128 .fp8e4m3) (harg8 : arg8.IsWhole) (arg9 : Memref sig .tc .vmem S1x32768x128 .fp8e4m3) (harg9 : arg9.IsWhole) (arg10 : Memref sig .tc .vmem S1x128x128 .bf16) (harg10 : arg10.IsWhole) (arg11 : Memref sig .tc .vmem S1x16x128 .fp8e4m3) (harg11 : arg11.IsWhole) (arg12 : Memref sig .tc .vmem S1x16x128 .fp8e4m3) (harg12 : arg12.IsWhole) (arg13 : Memref sig .tc .vmem S4x8x8192 .f32) (harg13 : arg13.IsWhole) (arg14 : Memref sig .tc .vmem S16x128 .f32) (harg14 : arg14.IsWhole) (arg15 : Memref sig .tc .vmem S16x128 .f32) (harg15 : arg15.IsWhole)
  (x0 : Vec Ideal S1x128x128 .bf16) (x1 x2 : Vec Ideal S1x16x128 .bf16) (x3 x4 : Vec Ideal S16x128 .f32) (x5 : Vec Ideal S4x128 .f32) (x6 : Vec Ideal S16x128 .f32) (x7 x8 : Vec Ideal S1x32768x128 .fp8e4m3)

/-- The block of the attention outputs. -/
theorem out9 :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
      = View.canon (outPieces x0 x5 x7 x8 (k0_pay6 x1 x3) (k0_pay8 (k0_pay7 x2 x4)) x6 (View.canon (scrPieces x0 x5 x7))) := by
  unfold out0_A_9
  rw [View.read_writes_eq_canon _ _ _ (fun y => cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y), out_eq, scr_eq, kq_eq, vq_eq, stored_eq, loadQ_eq]
  simp only [held_eq]

/-- The block of the new keys' codes. -/
theorem out10 :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay4 x1 x3 := by
  unfold out0_A_10
  rw [View.read_writes_eq_canon _ _ _ (fun y => cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y)]
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1
      = [⟨Rect.unit (s := S1x16x128) ![0, 0, 0] S1x16x128.size inb_S1x16x128_S1x16x128_0_0_0, k0_pay4 (loadN arg2 harg2 x1) (loadI arg4 harg4 x3)⟩] := by
    unfold kernelRun0_A
    dsimp only
    sl_kernel_rfl
  rw [h, View.canon_unit_zero hz3, loadN_eq, loadI_eq]

/-- The block of the new values' codes. -/
theorem out11 :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = k0_pay5 x2 x4 := by
  unfold out0_A_11
  rw [View.read_writes_eq_canon _ _ _ (fun y => cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y)]
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1
      = [⟨Rect.unit (s := S1x16x128) ![0, 0, 0] S1x16x128.size inb_S1x16x128_S1x16x128_0_0_0, k0_pay5 (loadN arg3 harg3 x2) (loadI arg5 harg5 x4)⟩] := by
    unfold kernelRun0_A
    dsimp only
    sl_kernel_rfl
  rw [h, View.canon_unit_zero hz3, loadN_eq, loadI_eq]

end

end Cert.PointValue

end
-- ==== Proof.KernelRun.lean ====
/- What a run of the kernel leaves in its results, as a function of the arguments. -/
module

public import proofs.«01_k».proof.Proof.PointValue
public import proofs.«01_k».proof.Proof.Equation
public import Idealize.ShloMosaic.Lib.StableHlo.RunRead

@[expose] public section

noncomputable section

namespace Cert.KernelRun

open Idealize.ShloMosaic Idealize.ShloMosaic.TcCoe Idealize.SL.Sem Cert.KernelIdeal Cert.KernelIdeal.Gen StableHlo
open Cert.Equation (codeOf)
open Idealize.ShloMosaic.Pointwise Cert.PointValue Cert.BlockOut Cert.BlockSums Cert.BlockScores Cert.Block

variable (m : (ℓ : Loc nD τ sig) → Buf (Elt Ideal) ℓ) (c : Dev nD)

/-! ## The arguments -/

abbrev X : Vec Ideal S128x1x16384 .bf16 := m ((c : Thread nD τ).loc main_arg0)
abbrev KN : Vec Ideal S128x1x16x128 .bf16 := m ((c : Thread nD τ).loc main_arg1)
abbrev VN : Vec Ideal S128x1x16x128 .bf16 := m ((c : Thread nD τ).loc main_arg2)
abbrev KC : Vec Ideal S128x2048x16x128 .fp8e4m3 := m ((c : Thread nD τ).loc main_arg3)
abbrev KS : Vec Ideal S16 .f32 := m ((c : Thread nD τ).loc main_arg4)
abbrev VC : Vec Ideal S128x2048x16x128 .fp8e4m3 := m ((c : Thread nD τ).loc main_arg5)
abbrev VS : Vec Ideal S16 .f32 := m ((c : Thread nD τ).loc main_arg6)

/-! ## The inverse scales -/

/-- The inverse of a head's scale, as the host computes it: the reciprocal of the largest power of two that is not above the
scale, and 2 where the scale is zero or infinite. -/
def inverse (s : FVec Ideal S16 .f32) : FVec Ideal S16 .f32 :=
  select (andi (cmpf .une s (broadcastInDim S16 ![] bcast_S_S16 (constant S_ .f32 0#32)))
      (cmpf .olt (Host.absf s) (broadcastInDim S16 ![] bcast_S_S16 (constant S_ .f32 2139095040#32))))
    (Host.reduce FloatOps.minimumf
      (select (cmpf .oge (broadcastInDim S16x254 ![0, 1] bcast_S16x1_S16x254_0_1 (broadcastInDim S16x1 ![0] bcast_S16_S16x1_0 (Host.absf s)))
          (broadcastInDim S16x254 ![0, 1] bcast_S1x254_S16x254_0_1 (broadcastInDim S1x254 ![1] bcast_S254_S1x254_1
            (fun i => FloatOps.ofBits .f32 (lit0 (S254.rowMajor i))))))
        (broadcastInDim S16x254 ![1] bcast_S254_S16x254_1 (fun i => FloatOps.ofBits .f32 (lit1 (S254.rowMajor i))))
        (broadcastInDim S16x254 ![] bcast_S_S16x254 (constant S_ .f32 2139095040#32)))
      (constant S_ .f32 2139095040#32) reducesTo_S16x254_S16_d1 h_S_)
    (broadcastInDim S16 ![] bcast_S_S16 (constant S_ .f32 1073741824#32))

abbrev KI : Vec Ideal S16 .f32 := inverse (KS m c)
abbrev VI : Vec Ideal S16 .f32 := inverse (VS m c)

/-! ## The host lines before the kernel's call -/

/-- The queries, by head. -/
theorem v10 (b n d : Fin 128) : V m c main_v10 (ix3 b n d) = X m c (ix3 b 0 ⟨n.val * 128 + d.val, by omega⟩) := by
  have h : V m c main_v10 = shapeCast S128x128x128 (X m c) shapeCasts_S128x1x16384_S128x128x128 := by
    unfold V
    after_reads_simp
    rfl
  rw [h]
  generalize X m c = A
  pointwise

/-- The new keys, without the unit axis. -/
theorem v11 (b : Fin 128) (h : Fin 16) (d : Fin 128) : V m c main_v11 (ix3 b h d) = KN m c (ix4 b 0 h d) := by
  have e : V m c main_v11 = shapeCast S128x16x128 (KN m c) shapeCasts_S128x1x16x128_S128x16x128 := by
    unfold V
    after_reads_simp
    rfl
  rw [e]
  generalize KN m c = A
  pointwise

/-- The new values, without the unit axis. -/
theorem v12 (b : Fin 128) (h : Fin 16) (d : Fin 128) : V m c main_v12 (ix3 b h d) = VN m c (ix4 b 0 h d) := by
  have e : V m c main_v12 = shapeCast S128x16x128 (VN m c) shapeCasts_S128x1x16x128_S128x16x128 := by
    unfold V
    after_reads_simp
    rfl
  rw [e]
  generalize VN m c = A
  pointwise

/-- The inverse key scales, one row for each head. -/
theorem v29 (h : Fin 16) (d : Fin 128) : V m c main_v29 (ix2 h d) = KI m c (ix1 h) := by
  have e : V m c main_v29 = broadcastInDim S16x128 ![0, 1] bcast_S16x1_S16x128_0_1 (broadcastInDim S16x1 ![0] bcast_S16_S16x1_0 (KI m c)) := by
    unfold V
    after_reads_simp
    rfl
  rw [e]
  generalize KI m c = A
  pointwise

/-- The inverse value scales, one row for each head. -/
theorem v46 (h : Fin 16) (d : Fin 128) : V m c main_v46 (ix2 h d) = VI m c (ix1 h) := by
  have e : V m c main_v46 = broadcastInDim S16x128 ![0, 1] bcast_S16x1_S16x128_0_1 (broadcastInDim S16x1 ![0] bcast_S16_S16x1_0 (VI m c)) := by
    unfold V
    after_reads_simp
    rfl
  rw [e]
  generalize VI m c = A
  pointwise

/-- The value scales, one row for each head. -/
theorem v48 (h : Fin 16) (d : Fin 128) : V m c main_v48 (ix2 h d) = VS m c (ix1 h) := by
  have e : V m c main_v48 = broadcastInDim S16x128 ![0, 1] bcast_S16x1_S16x128_0_1 (broadcastInDim S16x1 ![0] bcast_S16_S16x1_0
      (extf (F := Ideal) .f32 (truncf (F := Ideal) .bf16 (VS m c) bitsLt_bf16_f32) bitsLt_bf16_f32)) := by
    unfold V
    after_reads_simp
  rw [e]
  generalize VS m c = A
  pointwise

/-- The key scales times the softmax scale: lane `l` of group `r` holds head `4 * r + l % 4`. -/
theorem v9 (r : Fin 4) (l : Fin 128) :
    V m c main_v9 (ix2 r l) = KS m c (ix1 ⟨r.val * 4 + l.val % 4, by omega⟩) * Ideal.ofBits .f32 1035273459#32 := by
  have e : V m c main_v9 = shapeCast S4x128 (broadcastInDim S1x4x32x4 ![0, 1, 2, 3] bcast_S1x4x1x4_S1x4x32x4_0_1_2_3
      (shapeCast S1x4x1x4 (mulf (shapeCast S4x4 (extf (F := Ideal) .f32 (truncf (F := Ideal) .bf16 (KS m c) bitsLt_bf16_f32) bitsLt_bf16_f32) shapeCasts_S16_S4x4)
        (broadcastInDim S4x4 ![] bcast_S_S4x4 (constant (F := Ideal) S_ .f32 1035273459#32))) shapeCasts_S4x4_S1x4x1x4)) shapeCasts_S1x4x32x4_S4x128 := by
    unfold V
    after_reads_simp
    rfl
  rw [e]
  generalize KS m c = A
  pointwise

/-- The past key codes, token and head in one axis. -/
theorem v49 (b : Fin 128) (t : Fin 2048) (h : Fin 16) (d : Fin 128) :
    V m c main_v49 (ix3 b ⟨16 * t.val + h.val, by omega⟩ d) = KC m c (ix4 b t h d) := by
  have e : V m c main_v49 = shapeCast S128x32768x128 (KC m c) shapeCasts_S128x2048x16x128_S128x32768x128 := by
    unfold V
    after_reads_simp
    rfl
  rw [e]
  generalize KC m c = A
  pointwise

/-- The past value codes, token and head in one axis. -/
theorem v50 (b : Fin 128) (t : Fin 2048) (h : Fin 16) (d : Fin 128) :
    V m c main_v50 (ix3 b ⟨16 * t.val + h.val, by omega⟩ d) = VC m c (ix4 b t h d) := by
  have e : V m c main_v50 = shapeCast S128x32768x128 (VC m c) shapeCasts_S128x2048x16x128_S128x32768x128 := by
    unfold V
    after_reads_simp
    rfl
  rw [e]
  generalize VC m c = A
  pointwise

/-! ## The blocks of one grid point -/

/-- Which block of each array a grid point sees. -/
theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0, 0] := (by decide +kernel : ∀ t : Fin grid0.N, _)
theorem e8 : ∀ t : Fin cfg0.N, win0_8.index t = ![t.val, 0, 0] := (by decide +kernel : ∀ t : Fin grid0.N, _)
theorem e9 : ∀ t : Fin cfg0.N, win0_9.index t = ![t.val, 0, 0] := (by decide +kernel : ∀ t : Fin grid0.N, _)
theorem e10 : ∀ t : Fin cfg0.N, win0_10.index t = ![t.val, 0, 0] := (by decide +kernel : ∀ t : Fin grid0.N, _)
theorem e11 : ∀ t : Fin cfg0.N, win0_11.index t = ![t.val, 0, 0] := (by decide +kernel : ∀ t : Fin grid0.N, _)

/-- The batch of a grid point. -/
def bat (t : Fin cfg0.N) : Fin 128 := ⟨t.val, t.isLt⟩

/-- The blocks that a grid point sees, element by element. -/
theorem blk0 (t : Fin cfg0.N) (n d : Fin 128) : (iblk m c 0 t) (ix3 0 n d) = V m c main_v10 (ix3 (bat t) n d) := by
  blk_simp [iblk]
  congr 1
  blk_ext [e0, bat]
theorem blk1 (t : Fin cfg0.N) (n : Fin 16) (d : Fin 128) : (iblk m c 1 t) (ix3 0 n d) = V m c main_v11 (ix3 (bat t) n d) := by
  blk_simp [iblk]
  congr 1
  blk_ext [e1, bat]
theorem blk2 (t : Fin cfg0.N) (n : Fin 16) (d : Fin 128) : (iblk m c 2 t) (ix3 0 n d) = V m c main_v12 (ix3 (bat t) n d) := by
  blk_simp [iblk]
  congr 1
  blk_ext [e2, bat]
theorem blk3 (t : Fin cfg0.N) (h : Fin 16) (d : Fin 128) : (iblk m c 3 t) (ix2 h d) = V m c main_v29 (ix2 h d) := by
  blk_simp [iblk]
  congr 1
  blk_ext [e3]
theorem blk4 (t : Fin cfg0.N) (h : Fin 16) (d : Fin 128) : (iblk m c 4 t) (ix2 h d) = V m c main_v46 (ix2 h d) := by
  blk_simp [iblk]
  congr 1
  blk_ext [e4]
theorem blk5 (t : Fin cfg0.N) (h : Fin 4) (d : Fin 128) : (iblk m c 5 t) (ix2 h d) = V m c main_v9 (ix2 h d) := by
  blk_simp [iblk]
  congr 1
  blk_ext [e5]
theorem blk6 (t : Fin cfg0.N) (h : Fin 16) (d : Fin 128) : (iblk m c 6 t) (ix2 h d) = V m c main_v48 (ix2 h d) := by
  blk_simp [iblk]
  congr 1
  blk_ext [e6]
theorem blk7 (t : Fin cfg0.N) (n : Fin 32768) (d : Fin 128) : (iblk m c 7 t) (ix3 0 n d) = V m c main_v49 (ix3 (bat t) n d) := by
  blk_simp [iblk]
  congr 1
  blk_ext [e7, bat]
theorem blk8 (t : Fin cfg0.N) (n : Fin 32768) (d : Fin 128) : (iblk m c 8 t) (ix3 0 n d) = V m c main_v50 (ix3 (bat t) n d) := by
  blk_simp [iblk]
  congr 1
  blk_ext [e8, bat]

/-! ## The results -/

/-- Query head `8 h + g` of batch `b`. -/
def qRow (b : Fin 128) (h : Fin 16) (g : Fin 8) (d : Fin 128) : EReal :=
  X m c (ix3 b 0 ⟨(8 * h.val + g.val) * 128 + d.val, by omega⟩)

/-- The code of the new key of batch `b`, head `h`. -/
def kCode (b : Fin 128) (h : Fin 16) (d : Fin 128) : EReal := codeOf (KN m c (ix4 b 0 h d)) (KI m c (ix1 h))

/-- The code of the new value of batch `b`, head `h`. -/
def vCode (b : Fin 128) (h : Fin 16) (d : Fin 128) : EReal := codeOf (VN m c (ix4 b 0 h d)) (VI m c (ix1 h))

/-- The attention output of batch `b`, query head `8 h + g`. -/
def yAt (b : Fin 128) (h : Fin 16) (g : Fin 8) (d : Fin 128) : EReal :=
  Equation.kOut (qRow m c b h g) (kCode m c b h) (vCode m c b h) (fun t d => KC m c (ix4 b t h d)) (fun t d => VC m c (ix4 b t h d))
    (KS m c (ix1 h)) (VS m c (ix1 h)) (Ideal.ofBits .f32 1035273459#32) d

/-- The scores of a grid point, from the arguments. -/
theorem score_eq (t : Fin cfg0.N) (h : Fin 16) (g : Fin 8) (u : Fin 2048) :
    score (iblk m c 0 t) (iblk m c 5 t) (iblk m c 7 t) h g u
      = Equation.kPast (qRow m c (bat t) h g) (fun t' d => KC m c (ix4 (bat t) t' h d)) (KS m c (ix1 h)) (Ideal.ofBits .f32 1035273459#32) u := by
  rw [score, Equation.kPast, blk5, v9]
  refine congrArg₂ (fun x y : EReal => x * y) (Finset.sum_congr rfl fun d _ => ?_) ?_
  · rw [blk0, v10, blk7, v49]
    rfl
  · exact congrArg (fun z => KS m c (ix1 z) * Ideal.ofBits .f32 1035273459#32) (Fin.ext (by simp only []; omega))

/-- The new token's score, from the arguments. -/
theorem newTok_eq (t : Fin cfg0.N) (h : Fin 16) (g : Fin 8) :
    newTok (iblk m c 0 t) (iblk m c 5 t) (k0_pay6 (iblk m c 1 t) (iblk m c 3 t)) h g
      = Equation.kNew (qRow m c (bat t) h g) (kCode m c (bat t) h) (KS m c (ix1 h)) (Ideal.ofBits .f32 1035273459#32) := by
  rw [newTok, Equation.kNew, blk5, v9]
  refine congrArg₂ (fun x y : EReal => x * y) (Finset.sum_congr rfl fun d _ => ?_) ?_
  · rw [blk0, v10, pay6_apply, blk1, v11, blk3, v29]
    rfl
  · exact congrArg (fun z => KS m c (ix1 z) * Ideal.ofBits .f32 1035273459#32) (Fin.ext (by simp only []; omega))

/-- The largest score, from the arguments. -/
theorem top_eq (t : Fin cfg0.N) (h : Fin 16) (g : Fin 8) :
    top (iblk m c 0 t) (iblk m c 5 t) (iblk m c 7 t) (k0_pay6 (iblk m c 1 t) (iblk m c 3 t)) h g
      = Equation.kTop (qRow m c (bat t) h g) (kCode m c (bat t) h) (fun t' d => KC m c (ix4 (bat t) t' h d)) (KS m c (ix1 h))
          (Ideal.ofBits .f32 1035273459#32) := by
  rw [top, Equation.kTop, newTok_eq]
  simp only [score_eq]

/-- A past token's weight, from the arguments. -/
theorem wgt_eq (t : Fin cfg0.N) (h : Fin 16) (g : Fin 8) (u : Fin 2048) :
    wgt (iblk m c 0 t) (iblk m c 5 t) (iblk m c 7 t) (k0_pay6 (iblk m c 1 t) (iblk m c 3 t)) h g u
      = Ideal.exp (Equation.kPast (qRow m c (bat t) h g) (fun t' d => KC m c (ix4 (bat t) t' h d)) (KS m c (ix1 h))
            (Ideal.ofBits .f32 1035273459#32) u
          - Equation.kTop (qRow m c (bat t) h g) (kCode m c (bat t) h) (fun t' d => KC m c (ix4 (bat t) t' h d)) (KS m c (ix1 h))
            (Ideal.ofBits .f32 1035273459#32)) := by
  rw [wgt, top_eq, score_eq]

/-- The new token's weight, from the arguments. -/
theorem newWgt_eq (t : Fin cfg0.N) (h : Fin 16) (g : Fin 8) :
    newWgt (iblk m c 0 t) (iblk m c 5 t) (iblk m c 7 t) (k0_pay6 (iblk m c 1 t) (iblk m c 3 t)) h g
      = Ideal.exp (Equation.kNew (qRow m c (bat t) h g) (kCode m c (bat t) h) (KS m c (ix1 h)) (Ideal.ofBits .f32 1035273459#32)
          - Equation.kTop (qRow m c (bat t) h g) (kCode m c (bat t) h) (fun t' d => KC m c (ix4 (bat t) t' h d)) (KS m c (ix1 h))
            (Ideal.ofBits .f32 1035273459#32)) := by
  rw [newWgt, top_eq, newTok_eq]

/-- What a grid point stores for one query head. -/
theorem outAt_eq (t : Fin cfg0.N) (h : Fin 16) (g : Fin 8) (d : Fin 128) :
    outAt (iblk m c 0 t) (iblk m c 5 t) (iblk m c 7 t) (iblk m c 8 t) (k0_pay6 (iblk m c 1 t) (iblk m c 3 t))
      (k0_pay8 (k0_pay7 (iblk m c 2 t) (iblk m c 4 t))) (iblk m c 6 t) h g d = yAt m c (bat t) h g d := by
  have hv : ∀ u : Fin 2048, iblk m c 8 t (ix3 0 ⟨16 * u.val + h.val, by omega⟩ d) = VC m c (ix4 (bat t) u h d) := by
    intro u
    rw [blk8, v50]
  rw [outAt, yAt, Equation.kOut, newWgt_eq, pay8_apply, blk2, v12, blk4, v46, blk6, v48]
  simp only [wgt_eq, hv]
  rfl

/-- The first result: attention, for every batch and query head. -/
theorem arr9 : (dats m 0 c).arrAt 9 cfg0.N
    = (fun i => yAt m c (i 0) ⟨(i 1).val / 8, by have : (i 1).val < 128 := (i 1).isLt; omega⟩ ⟨(i 1).val % 8, by omega⟩ (i 2) :
        Vec Ideal S128x128x128 .bf16) := by
  refine (dats m 0 c).arrAt_eq_of_covers 9 _ (by decide +kernel) fun t hf y => ?_
  have he : ((cfg0.win 9).blk t).view.emb y = ix3 (bat t) (y 1) (y 2) := by blk_ext [e9, bat]
  rw [he]
  blk_simp
  rw [after0_9]
  unfold outsAt0
  dsimp only
  rw [out9]
  obtain ⟨z, n, d, rfl⟩ : ∃ (z : Fin 1) (n : Fin 128) (d : Fin 128), y = ix3 z n d := ⟨y 0, y 1, y 2, eq_ix3 y⟩
  have hy : (ix3 z n d : S1x128x128.Idx) = ix3 0 ⟨8 * (⟨n.val / 8, by omega⟩ : Fin 16).val + (⟨n.val % 8, by omega⟩ : Fin 8).val, by
      simp only []; omega⟩ d := by
    congr 1
    · exact Subsingleton.elim _ _
    · exact Fin.ext (by simp only []; omega)
  exact (congrArg _ hy).trans ((out_apply scr_ok ⟨n.val / 8, by omega⟩ ⟨n.val % 8, by omega⟩ d).trans (outAt_eq m c t _ _ d))

/-- The second result: the new keys' codes. -/
theorem arr10 : (dats m 0 c).arrAt 10 cfg0.N = (fun i => kCode m c (i 0) (i 1) (i 2) : Vec Ideal S128x16x128 .fp8e4m3) := by
  refine (dats m 0 c).arrAt_eq_of_covers 10 _ (by decide +kernel) fun t hf y => ?_
  have he : ((cfg0.win 10).blk t).view.emb y = ix3 (bat t) (y 1) (y 2) := by blk_ext [e10, bat]
  rw [he]
  blk_simp
  rw [after0_10]
  unfold outsAt0
  dsimp only
  rw [out10]
  obtain ⟨z, h, d, rfl⟩ : ∃ (z : Fin 1) (h : Fin 16) (d : Fin 128), y = ix3 z h d := ⟨y 0, y 1, y 2, eq_ix3 y⟩
  refine (pay4_apply _ _ z h d).trans ?_
  rw [blk1, v11, blk3, v29]
  rfl

/-- The fourth result: the new values' codes. -/
theorem arr11 : (dats m 0 c).arrAt 11 cfg0.N = (fun i => vCode m c (i 0) (i 1) (i 2) : Vec Ideal S128x16x128 .fp8e4m3) := by
  refine (dats m 0 c).arrAt_eq_of_covers 11 _ (by decide +kernel) fun t hf y => ?_
  have he : ((cfg0.win 11).blk t).view.emb y = ix3 (bat t) (y 1) (y 2) := by blk_ext [e11, bat]
  rw [he]
  blk_simp
  rw [after0_11]
  unfold outsAt0
  dsimp only
  rw [out11]
  obtain ⟨z, h, d, rfl⟩ : ∃ (z : Fin 1) (h : Fin 16) (d : Fin 128), y = ix3 z h d := ⟨y 0, y 1, y 2, eq_ix3 y⟩
  refine (pay5_apply _ _ z h d).trans ?_
  rw [blk2, v12, blk4, v46]
  rfl

end Cert.KernelRun

end
-- ==== Proof.RefTail.lean ====
/- What the reference's host lines after its casts compute, as a function of the arrays, read at one element. -/
module

public import proofs.«01_k».proof.Proof.Gen.ReferenceIdeal.Frame
public import Idealize.ShloMosaic.Lib.StableHlo.RunRead
public import Idealize.ShloMosaic.Lib.Pointwise

@[expose] public section

noncomputable section

namespace Cert.RefTail

open Cert.ReferenceIdeal Cert.ReferenceIdeal.Gen Idealize.ShloMosaic Idealize.ShloMosaic.TcCoe Idealize.SL.Sem StableHlo
open Idealize.ShloMosaic.Pointwise

/-- Past and new codes of one cache, joined along the tokens and scaled per head. -/
def dequant (past : FVec Ideal S128x2048x16x128 .bf16) (cur : FVec Ideal S128x1x16x128 .bf16)
    (sc : FVec Ideal S16 .f32) : FVec Ideal S128x2049x16x128 .bf16 :=
  mulf (concatenate S128x2049x16x128 1 [⟨S128x2048x16x128, past⟩, ⟨S128x1x16x128, cur⟩]
      concatenates_S128x2048x16x128_S128x1x16x128_S128x2049x16x128_d1)
    (broadcastInDim S128x2049x16x128 ![0, 1, 2, 3] bcast_S1x1x16x1_S128x2049x16x128_0_1_2_3
      (broadcastInDim S1x1x16x1 ![2, 3] bcast_S16x1_S1x1x16x1_2_3
        (broadcastInDim S16x1 ![0] bcast_S16_S16x1_0 (truncf FTy.bf16 sc bitsLt_bf16_f32))))

/-- The scores of every query against every token. -/
def scores (x : FVec Ideal S128x1x16384 .bf16) (k : FVec Ideal S128x2049x16x128 .bf16) :
    FVec Ideal S128x16x8x1x2049 .f32 :=
  mulf (transpose S128x16x8x1x2049 [0, 1, 4, 3, 2]
      (Host.dotGeneral dot_S128x2049x16x128_S128x1x16x8x128_S128x16x2049x1x8_3_4_1_13_02_02 none k
        (shapeCast S128x1x16x8x128 x shapeCasts_S128x1x16384_S128x1x16x8x128) : FVec Ideal S128x16x2049x1x8 .f32)
      transposes_S128x16x2049x1x8_S128x16x8x1x2049_0_1_4_3_2)
    (broadcastInDim S128x16x8x1x2049 ![] bcast_S_S128x16x8x1x2049 (constant S_ FTy.f32 1035273459#32))

/-- The exponentials of the scores less their row's greatest. -/
def weights (s : FVec Ideal S128x16x8x1x2049 .f32) : FVec Ideal S128x16x8x1x2049 .f32 :=
  Host.exp (subf s (broadcastInDim S128x16x8x1x2049 ![0, 1, 2, 3, 4] bcast_S128x16x8x1x1_S128x16x8x1x2049_0_1_2_3_4
    (broadcastInDim S128x16x8x1x1 ![0, 1, 2, 3] bcast_S128x16x8x1_S128x16x8x1x1_0_1_2_3
      (Host.reduce FloatOps.maximumf s (constant S_ FTy.f32 4286578688#32)
        reducesTo_S128x16x8x1x2049_S128x16x8x1_d4 h_S_))))

/-- The weighted values over the sum of the weights, laid out as the result. -/
def outputs (p : FVec Ideal S128x16x8x1x2049 .f32) (v : FVec Ideal S128x2049x16x128 .bf16) :
    FVec Ideal S128x128x128 .bf16 :=
  truncf FTy.bf16 (shapeCast S128x128x128 (transpose S128x1x16x8x128 [0, 3, 1, 2, 4]
    (Host.divf (Host.dotGeneral dot_S128x16x8x1x2049_S128x2049x16x128_S128x16x8x1x128_4_1_23_3_01_02 none
        (truncf FTy.bf16 p bitsLt_bf16_f32) v : FVec Ideal S128x16x8x1x128 .f32)
      (broadcastInDim S128x16x8x1x128 ![0, 1, 2, 3, 4] bcast_S128x16x8x1x1_S128x16x8x1x128_0_1_2_3_4
        (broadcastInDim S128x16x8x1x1 ![0, 1, 2, 3] bcast_S128x16x8x1_S128x16x8x1x1_0_1_2_3
          (Host.reduceAdd p (constant S_ FTy.f32 0#32) reducesTo_S128x16x8x1x2049_S128x16x8x1_d4 h_S_))))
    transposes_S128x16x8x1x128_S128x1x16x8x128_0_3_1_2_4) shapeCasts_S128x1x16x8x128_S128x128x128) bitsLt_bf16_f32

/-- The attention output of the host lines after the region, from what the region left. -/
theorem tail_y (W : Valuation τ sig (Elt Ideal)) :
    after (hostOps1 (F := Ideal)) W (Proc.devRef .tc main_v73)
      = outputs (weights (scores (W (Proc.devRef .tc main_arg0))
          (dequant (W (Proc.devRef .tc main_v42_4)) (W (Proc.devRef .tc main_v42_2)) (W (Proc.devRef .tc main_arg4)))))
        (dequant (W (Proc.devRef .tc main_v42_5)) (W (Proc.devRef .tc main_v42_3)) (W (Proc.devRef .tc main_arg6))) := by
  after_reads_simp
  have h4 : upto (hostOps1 (F := Ideal)) W 0 (Proc.devRef .tc main_v42_4) = W (Proc.devRef .tc main_v42_4) := by after_reads_simp
  have h2 : upto (hostOps1 (F := Ideal)) W 0 (Proc.devRef .tc main_v42_2) = W (Proc.devRef .tc main_v42_2) := by after_reads_simp
  have h5 : upto (hostOps1 (F := Ideal)) W 6 (Proc.devRef .tc main_v42_5) = W (Proc.devRef .tc main_v42_5) := by after_reads_simp
  have h3 : upto (hostOps1 (F := Ideal)) W 6 (Proc.devRef .tc main_v42_3) = W (Proc.devRef .tc main_v42_3) := by after_reads_simp
  rw [h4, h2, h5, h3]
  rfl

/-- The key codes of the new token, from what the region left. -/
theorem tail_kc (W : Valuation τ sig (Elt Ideal)) :
    after (hostOps1 (F := Ideal)) W (Proc.devRef .tc main_v74)
      = shapeCast S128x16x128 (W (Proc.devRef .tc main_v42_0)) shapeCasts_S128x1x16x128_S128x16x128 := by
  after_reads_simp
  rfl

/-- The value codes of the new token, from what the region left. -/
theorem tail_vc (W : Valuation τ sig (Elt Ideal)) :
    after (hostOps1 (F := Ideal)) W (Proc.devRef .tc main_v75)
      = shapeCast S128x16x128 (W (Proc.devRef .tc main_v42_1)) shapeCasts_S128x1x16x128_S128x16x128 := by
  after_reads_simp
  rfl

/-- A dequantised cache at one element: a past code below token 2048, the new token's code at 2048. -/
theorem dequant_apply (past : FVec Ideal S128x2048x16x128 .bf16) (cur : FVec Ideal S128x1x16x128 .bf16)
    (sc : FVec Ideal S16 .f32) (b : Fin 128) (t : Fin 2049) (h : Fin 16) (d : Fin 128) :
    dequant past cur sc (ix4 b t h d)
      = (if h1 : t.val < 2048 then past (ix4 b ⟨t.val, h1⟩ h d) else cur (ix4 b ⟨t.val - 2048, by omega⟩ h d))
        * sc (ix1 h) := by
  pointwise [dequant]

/-- A score at one element. -/
theorem scores_apply (x : FVec Ideal S128x1x16384 .bf16) (k : FVec Ideal S128x2049x16x128 .bf16)
    (b : Fin 128) (h : Fin 16) (g : Fin 8) (t : Fin 2049) :
    scores x k (ix5 b h g 0 t)
      = (∑ d : Fin 128, k (ix4 b t h d) * x (ix3 b 0 ⟨h.val * 1024 + g.val * 128 + d.val, by omega⟩))
        * Ideal.ofBits .f32 1035273459#32 := by
  pointwise [scores]

/-- A weight at one element. -/
theorem weights_apply (s : FVec Ideal S128x16x8x1x2049 .f32)
    (b : Fin 128) (h : Fin 16) (g : Fin 8) (t : Fin 2049) :
    weights s (ix5 b h g 0 t)
      = Ideal.exp (s (ix5 b h g 0 t)
        - Finset.fold max (Ideal.ofBits .f32 4286578688#32) (fun u => s (ix5 b h g 0 u)) Finset.univ) := by
  pointwise [weights]

/-- An output at one element. -/
theorem outputs_apply (p : FVec Ideal S128x16x8x1x2049 .f32) (v : FVec Ideal S128x2049x16x128 .bf16)
    (b : Fin 128) (n : Fin 128) (d : Fin 128) :
    outputs p v (ix3 b n d)
      = Ideal.div (∑ t : Fin 2049, p (ix5 b ⟨n.val / 8, by omega⟩ ⟨n.val % 8, by omega⟩ 0 t) * v (ix4 b t ⟨n.val / 8, by omega⟩ d))
        (∑ t : Fin 2049, p (ix5 b ⟨n.val / 8, by omega⟩ ⟨n.val % 8, by omega⟩ 0 t)) := by
  pointwise [outputs]

end Cert.RefTail

end
-- ==== Proof.RefRun.lean ====
/- What a run of the reference leaves in its results, as a function of the arguments. -/
module

public import proofs.«01_k».proof.Proof.RefTail
public import proofs.«01_k».proof.Proof.Equation
public import Idealize.ShloMosaic.Lib.Pipeline.ValueKit.Geometry

@[expose] public section

noncomputable section

namespace Cert.RefRun

open Cert.ReferenceIdeal Cert.ReferenceIdeal.Gen Idealize.ShloMosaic Idealize.ShloMosaic.TcCoe Idealize.SL.Sem StableHlo
open Idealize.ShloMosaic.Pointwise Cert.RefTail Cert.Equation

variable (m : (ℓ : Loc nD τ sig) → Buf (Elt Ideal) ℓ) (ρ : Dev nD → PrngReg) (c : Dev nD)

/-! ## The arguments -/

abbrev X : Vec Ideal S128x1x16384 .bf16 := m ((c : Thread nD τ).loc main_arg0)
abbrev KN : Vec Ideal S128x1x16x128 .bf16 := m ((c : Thread nD τ).loc main_arg1)
abbrev VN : Vec Ideal S128x1x16x128 .bf16 := m ((c : Thread nD τ).loc main_arg2)
abbrev KC : Vec Ideal S128x2048x16x128 .fp8e4m3 := m ((c : Thread nD τ).loc main_arg3)
abbrev KS : Vec Ideal S16 .f32 := m ((c : Thread nD τ).loc main_arg4)
abbrev VC : Vec Ideal S128x2048x16x128 .fp8e4m3 := m ((c : Thread nD τ).loc main_arg5)
abbrev VS : Vec Ideal S16 .f32 := m ((c : Thread nD τ).loc main_arg6)

/-! ## The inverse scales -/

/-- The inverse of a head's scale: the reciprocal of the largest power of two that is not above the scale, and 2 where the
scale is zero or infinite. -/
def inverse (s : FVec Ideal S16 .f32) : FVec Ideal S16 .f32 :=
  select (andi (cmpf .une s (broadcastInDim S16 ![] bcast_S_S16 (constant S_ .f32 0#32)))
      (cmpf .olt (Host.absf s) (broadcastInDim S16 ![] bcast_S_S16 (constant S_ .f32 2139095040#32))))
    (Host.reduce FloatOps.minimumf
      (select (cmpf .oge (broadcastInDim S16x254 ![0, 1] bcast_S16x1_S16x254_0_1 (broadcastInDim S16x1 ![0] bcast_S16_S16x1_0 (Host.absf s)))
          (broadcastInDim S16x254 ![0, 1] bcast_S1x254_S16x254_0_1 (broadcastInDim S1x254 ![1] bcast_S254_S1x254_1
            (fun i => FloatOps.ofBits .f32 (lit0 (S254.rowMajor i))))))
        (broadcastInDim S16x254 ![1] bcast_S254_S16x254_1 (fun i => FloatOps.ofBits .f32 (lit1 (S254.rowMajor i))))
        (broadcastInDim S16x254 ![] bcast_S_S16x254 (constant S_ .f32 2139095040#32)))
      (constant S_ .f32 2139095040#32) reducesTo_S16x254_S16_d1 h_S_)
    (broadcastInDim S16 ![] bcast_S_S16 (constant S_ .f32 1073741824#32))

abbrev KI : Vec Ideal S16 .f32 := inverse (KS m c)
abbrev VI : Vec Ideal S16 .f32 := inverse (VS m c)

/-! ## The arrays that the casts leave -/

/-- The start of a whole block of four axes. -/
theorem hz : (![0, 0, 0, 0] : Fin 4 → Nat) = fun _ => 0 := funext fun a => by fin_cases a <;> rfl

/-- The codes of the new keys: over the reals, the scaled and clipped keys themselves. -/
theorem arr4 : (dats m 0 c).arrAt 4 cfg0.N = ((V m c main_v20 : FVec Ideal S128x1x16x128 .f32) : FVec Ideal S128x1x16x128 .fp8e4m3) := by
  refine (dats m 0 c).arrAt_eq_of_covers 4 _ (by decide +kernel) fun t hf y => ?_
  blk_simp
  rw [after0_4]
  unfold out0_4
  rw [View.canon_unit_zero hz, View.ld_unit_zero hz]
  have h : k0_pay2 (iblk m c 0 t) = (iblk m c 0 t : FVec Ideal S128x1x16x128 .fp8e4m3) := by
    unfold k0_pay2
    dsimp only
    rw [shapeCast_self]
    rfl
  rw [h]
  rfl

/-- The codes of the new values. -/
theorem arr5 : (dats m 0 c).arrAt 5 cfg0.N = ((V m c main_v41 : FVec Ideal S128x1x16x128 .f32) : FVec Ideal S128x1x16x128 .fp8e4m3) := by
  refine (dats m 0 c).arrAt_eq_of_covers 5 _ (by decide +kernel) fun t hf y => ?_
  blk_simp
  rw [after0_5]
  unfold out0_5
  rw [View.canon_unit_zero hz, View.ld_unit_zero hz]
  have h : k0_pay3 (iblk m c 1 t) = (iblk m c 1 t : FVec Ideal S128x1x16x128 .fp8e4m3) := by
    unfold k0_pay3
    dsimp only
    rw [shapeCast_self]
    rfl
  rw [h]
  rfl

/-- The codes of the new keys, as bf16. -/
theorem arr6 : (dats m 0 c).arrAt 6 cfg0.N = ((V m c main_v20 : FVec Ideal S128x1x16x128 .f32) : FVec Ideal S128x1x16x128 .bf16) := by
  refine (dats m 0 c).arrAt_eq_of_covers 6 _ (by decide +kernel) fun t hf y => ?_
  blk_simp
  rw [after0_6]
  unfold out0_6
  rw [View.canon_unit_zero hz, View.ld_unit_zero hz]
  have h : k0_pay4 (iblk m c 0 t) = (iblk m c 0 t : FVec Ideal S128x1x16x128 .bf16) := by
    unfold k0_pay4
    dsimp only
    rw [shapeCast_self]
    rfl
  rw [h]
  rfl

/-- The codes of the new values, as bf16. -/
theorem arr7 : (dats m 0 c).arrAt 7 cfg0.N = ((V m c main_v41 : FVec Ideal S128x1x16x128 .f32) : FVec Ideal S128x1x16x128 .bf16) := by
  refine (dats m 0 c).arrAt_eq_of_covers 7 _ (by decide +kernel) fun t hf y => ?_
  blk_simp
  rw [after0_7]
  unfold out0_7
  rw [View.canon_unit_zero hz, View.ld_unit_zero hz]
  have h : k0_pay5 (iblk m c 1 t) = (iblk m c 1 t : FVec Ideal S128x1x16x128 .bf16) := by
    unfold k0_pay5
    dsimp only
    rw [shapeCast_self]
    rfl
  rw [h]
  rfl

/-- The codes of the past keys, as bf16. -/
theorem arr8 : (dats m 0 c).arrAt 8 cfg0.N = ((V m c main_arg3 : FVec Ideal S128x2048x16x128 .fp8e4m3) : FVec Ideal S128x2048x16x128 .bf16) := by
  refine (dats m 0 c).arrAt_eq_of_covers 8 _ (by decide +kernel) fun t hf y => ?_
  blk_simp
  rw [after0_8]
  unfold out0_8
  rw [View.canon_unit_zero hz, View.ld_unit_zero hz]
  have h : k0_pay6 (iblk m c 2 t) = (iblk m c 2 t : FVec Ideal S128x2048x16x128 .bf16) := by
    unfold k0_pay6
    dsimp only
    rfl
  rw [h]
  rfl

/-- The codes of the past values, as bf16. -/
theorem arr9 : (dats m 0 c).arrAt 9 cfg0.N = ((V m c main_arg5 : FVec Ideal S128x2048x16x128 .fp8e4m3) : FVec Ideal S128x2048x16x128 .bf16) := by
  refine (dats m 0 c).arrAt_eq_of_covers 9 _ (by decide +kernel) fun t hf y => ?_
  blk_simp
  rw [after0_9]
  unfold out0_9
  rw [View.canon_unit_zero hz, View.ld_unit_zero hz]
  have h : k0_pay1 (iblk m c 3 t) = (iblk m c 3 t : FVec Ideal S128x2048x16x128 .bf16) := by
    unfold k0_pay1
    dsimp only
    rfl
  rw [h]
  rfl

/-- Scaling and clipping, as the host does them. -/
def scaled (v : FVec Ideal S128x1x16x128 .bf16) (inv : FVec Ideal S16 .f32) : FVec Ideal S128x1x16x128 .f32 :=
  minimumf (broadcastInDim S128x1x16x128 ![] bcast_S_S128x1x16x128 (constant S_ .f32 1138753536#32))
    (maximumf (broadcastInDim S128x1x16x128 ![] bcast_S_S128x1x16x128 (constant S_ .f32 3286237184#32))
      (mulf (extf .f32 v bitsLt_bf16_f32)
        (broadcastInDim S128x1x16x128 ![0, 1, 2, 3] bcast_S1x1x16x1_S128x1x16x128_0_1_2_3
          (broadcastInDim S1x1x16x1 ![2, 3] bcast_S16x1_S1x1x16x1_2_3 (broadcastInDim S16x1 ![0] bcast_S16_S16x1_0 inv)))))

/-- One scaled and clipped element. -/
theorem scaled_apply (v : FVec Ideal S128x1x16x128 .bf16) (inv : FVec Ideal S16 .f32) (b : Fin 128) (z : Fin 1) (h : Fin 16) (d : Fin 128) :
    scaled v inv (ix4 b z h d) = codeOf (v (ix4 b 0 h d)) (inv (ix1 h)) := by
  obtain rfl : z = 0 := Subsingleton.elim _ _
  unfold codeOf
  pointwise [scaled]

/-- The scaled and clipped new keys, as the region receives them. -/
theorem v20 : V m c main_v20 = scaled (KN m c) (KI m c) := by
  unfold V V0
  after_reads_simp
  rfl

/-- The scaled and clipped new values, as the region receives them. -/
theorem v41 : V m c main_v41 = scaled (VN m c) (VI m c) := by
  unfold V V0
  after_reads_simp
  rfl

/-! ## Attention at one element -/

/-- One element of the first result, from the arrays that enter the softmax. -/
theorem attend_apply (x : FVec Ideal S128x1x16384 .bf16) (kp : FVec Ideal S128x2048x16x128 .bf16) (kn : FVec Ideal S128x1x16x128 .bf16)
    (ks : FVec Ideal S16 .f32) (vp : FVec Ideal S128x2048x16x128 .bf16) (vn : FVec Ideal S128x1x16x128 .bf16) (vs : FVec Ideal S16 .f32)
    (b n d : Fin 128) (h : Fin 16) (g : Fin 8) (hh : h.val = n.val / 8) (hg : g.val = n.val % 8) :
    outputs (weights (scores x (dequant kp kn ks))) (dequant vp vn vs) (ix3 b n d)
      = rOut (fun e => x (ix3 b 0 ⟨(8 * h.val + g.val) * 128 + e.val, by omega⟩)) (fun e => kn (ix4 b 0 h e)) (fun e => vn (ix4 b 0 h e))
          (fun t e => kp (ix4 b t h e)) (fun t e => vp (ix4 b t h e)) (ks (ix1 h)) (vs (ix1 h)) (Ideal.ofBits .f32 1035273459#32) d := by
  have e1 : (⟨n.val / 8, by omega⟩ : Fin 16) = h := Fin.ext hh.symm
  have e2 : (⟨n.val % 8, by omega⟩ : Fin 8) = g := Fin.ext hg.symm
  have hd : ∀ (p : FVec Ideal S128x2048x16x128 .bf16) (w : FVec Ideal S128x1x16x128 .bf16) (s : FVec Ideal S16 .f32) (h : Fin 16)
      (t : Fin 2049) (e : Fin 128), dequant p w s (ix4 b t h e)
        = rows (fun t e => p (ix4 b t h e)) (fun e => w (ix4 b 0 h e)) (s (ix1 h)) t e := by
    intro p w s h t e
    rw [dequant_apply, rows]
    have hw : ∀ z : Fin 1, w (ix4 b z h e) = w (ix4 b 0 h e) := fun z => by rw [Subsingleton.elim z 0]
    simp only [hw]
  have hs : ∀ t : Fin 2049, scores x (dequant kp kn ks) (ix5 b h g 0 t)
      = rScore (fun e => x (ix3 b 0 ⟨(8 * h.val + g.val) * 128 + e.val, by omega⟩)) (fun e => kn (ix4 b 0 h e))
          (fun t e => kp (ix4 b t h e)) (ks (ix1 h)) (Ideal.ofBits .f32 1035273459#32) t := by
    intro t
    rw [scores_apply, rScore]
    have hx : ∀ e : Fin 128, (⟨h.val * 1024 + g.val * 128 + e.val, by omega⟩ : Fin 16384)
        = ⟨(8 * h.val + g.val) * 128 + e.val, by omega⟩ := fun e => Fin.ext (by simp only []; omega)
    simp only [hd, hx]
  rw [outputs_apply, rOut]
  simp only [e1, e2, weights_apply, hs, hd]
  rfl

/-! ## The run -/

/-- Element `(b, n, d)` of the first result: attention of query head `n`, which reads KV head `n / 8`. -/
def yAt (b : Fin 128) (h : Fin 16) (g : Fin 8) (d : Fin 128) : EReal :=
  rOut (fun e => X m c (ix3 b 0 ⟨(8 * h.val + g.val) * 128 + e.val, by omega⟩))
    (fun e => codeOf (KN m c (ix4 b 0 h e)) (KI m c (ix1 h))) (fun e => codeOf (VN m c (ix4 b 0 h e)) (VI m c (ix1 h)))
    (fun t e => KC m c (ix4 b t h e)) (fun t e => VC m c (ix4 b t h e)) (KS m c (ix1 h)) (VS m c (ix1 h))
    (Ideal.ofBits .f32 1035273459#32) d

/-- What every buffer holds when the host operations after the region start. -/
abbrev W : Valuation τ sig (Elt Ideal) :=
  Pipeline.withArrays spec0 c (V0 m c) fun w => (dats m 0 c).arrAt w cfg0.N

/-- The region leaves its arrays as the grid points wrote them. -/
theorem W_arr (w : Fin 10) : W m c (Proc.devRef .tc (Pipeline.arrRef spec0 w)) = (dats m 0 c).arrAt w cfg0.N :=
  Pipeline.withArrays_arr spec0 (by decide) c (V0 m c) _ w

/-- What the region leaves: the key codes. -/
theorem W_kc : W m c (Proc.devRef .tc main_v42_0) = scaled (KN m c) (KI m c) :=
  (W_arr m c 4).trans ((arr4 m c).trans (v20 m c))

/-- The value codes. -/
theorem W_vc : W m c (Proc.devRef .tc main_v42_1) = scaled (VN m c) (VI m c) :=
  (W_arr m c 5).trans ((arr5 m c).trans (v41 m c))

/-- The key codes as bf16. -/
theorem W_kn : W m c (Proc.devRef .tc main_v42_2) = scaled (KN m c) (KI m c) :=
  (W_arr m c 6).trans ((arr6 m c).trans (v20 m c))

/-- The value codes as bf16. -/
theorem W_vn : W m c (Proc.devRef .tc main_v42_3) = scaled (VN m c) (VI m c) :=
  (W_arr m c 7).trans ((arr7 m c).trans (v41 m c))

/-- The past key codes as bf16. -/
theorem W_kp : W m c (Proc.devRef .tc main_v42_4) = KC m c :=
  (W_arr m c 8).trans ((arr8 m c).trans (V_main_arg3 m c))

/-- The past value codes as bf16. -/
theorem W_vp : W m c (Proc.devRef .tc main_v42_5) = VC m c :=
  (W_arr m c 9).trans ((arr9 m c).trans (V_main_arg5 m c))

/-- The queries, untouched. -/
theorem W_x : W m c (Proc.devRef .tc main_arg0) = X m c :=
  (Pipeline.withArrays_of_ne spec0 c (V0 m c) _ main_arg0 (by decide)).trans (V_main_arg0 m c)

/-- The key scales, untouched. -/
theorem W_ks : W m c (Proc.devRef .tc main_arg4) = KS m c :=
  (Pipeline.withArrays_of_ne spec0 c (V0 m c) _ main_arg4 (by decide)).trans (V_main_arg4 m c)

/-- The value scales, untouched. -/
theorem W_vs : W m c (Proc.devRef .tc main_arg6) = VS m c :=
  (Pipeline.withArrays_of_ne spec0 c (V0 m c) _ main_arg6 (by decide)).trans (V_main_arg6 m c)

/-- Dropping the unit axis of the new token. -/
theorem drop_apply (v : FVec Ideal S128x1x16x128 .fp8e4m3) (b : Fin 128) (h : Fin 16) (d : Fin 128) :
    shapeCast S128x16x128 v shapeCasts_S128x1x16x128_S128x16x128 (ix3 b h d) = v (ix4 b 0 h d) := by
  pointwise []

/-- The first result, element by element. -/
theorem y_eq : after (hostOps1 (F := Ideal)) (W m c) (Proc.devRef .tc main_v73)
    = (fun i => yAt m c (i 0) ⟨(i 1).val / 8, by have : (i 1).val < 128 := (i 1).isLt; omega⟩ ⟨(i 1).val % 8, by omega⟩ (i 2) :
        FVec Ideal S128x128x128 .bf16) := by
  rw [tail_y, W_x, W_kp, W_kn, W_ks, W_vp, W_vn, W_vs]
  funext i
  obtain ⟨b, n, d, rfl⟩ : ∃ (b n d : Fin 128), i = ix3 b n d := ⟨i 0, i 1, i 2, eq_ix3 i⟩
  refine (attend_apply _ _ _ _ _ _ _ b n d ⟨n.val / 8, by omega⟩ ⟨n.val % 8, by omega⟩ rfl rfl).trans ?_
  simp only [scaled_apply]
  rfl

/-- The second result: the new keys' codes. -/
theorem kc_eq : after (hostOps1 (F := Ideal)) (W m c) (Proc.devRef .tc main_v74)
    = (fun i => codeOf (KN m c (ix4 (i 0) 0 (i 1) (i 2))) (KI m c (ix1 (i 1))) : FVec Ideal S128x16x128 .fp8e4m3) := by
  rw [tail_kc, W_kc]
  funext i
  obtain ⟨b, h, d, rfl⟩ : ∃ (b : Fin 128) (h : Fin 16) (d : Fin 128), i = ix3 b h d := ⟨i 0, i 1, i 2, eq_ix3 i⟩
  exact (drop_apply _ b h d).trans (scaled_apply _ _ b 0 h d)

/-- The fourth result: the new values' codes. -/
theorem vc_eq : after (hostOps1 (F := Ideal)) (W m c) (Proc.devRef .tc main_v75)
    = (fun i => codeOf (VN m c (ix4 (i 0) 0 (i 1) (i 2))) (VI m c (ix1 (i 1))) : FVec Ideal S128x16x128 .fp8e4m3) := by
  rw [tail_vc, W_vc]
  funext i
  obtain ⟨b, h, d, rfl⟩ : ∃ (b : Fin 128) (h : Fin 16) (d : Fin 128), i = ix3 b h d := ⟨i 0, i 1, i 2, eq_ix3 i⟩
  exact (drop_apply _ b h d).trans (scaled_apply _ _ b 0 h d)

/-- A run of the reference: its three computed results, and its arguments unchanged. -/
theorem run : θ_run (defs (F := Ideal)) (onTc (τ := τ) (main (F := Ideal))) ⟨m, fun _ => 0, ρ⟩ (fun r => ∀ c : Dev nD,
    r.2.mem ((c.tc : Thread nD τ).loc main_v73)
        = (fun i => yAt m c (i 0) ⟨(i 1).val / 8, by have : (i 1).val < 128 := (i 1).isLt; omega⟩ ⟨(i 1).val % 8, by omega⟩ (i 2) :
            FVec Ideal S128x128x128 .bf16)
      ∧ r.2.mem ((c.tc : Thread nD τ).loc main_v74)
        = (fun i => codeOf (KN m c (ix4 (i 0) 0 (i 1) (i 2))) (KI m c (ix1 (i 1))) : FVec Ideal S128x16x128 .fp8e4m3)
      ∧ r.2.mem ((c.tc : Thread nD τ).loc main_v75)
        = (fun i => codeOf (VN m c (ix4 (i 0) 0 (i 1) (i 2))) (VI m c (ix1 (i 1))) : FVec Ideal S128x16x128 .fp8e4m3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v73 (Pipeline.mem_restRefs_of main_v73 (by decide) (by decide))).trans (y_eq m c),
      ((h c).2 main_v74 (Pipeline.mem_restRefs_of main_v74 (by decide) (by decide))).trans (kc_eq m c),
      ((h c).2 main_v75 (Pipeline.mem_restRefs_of main_v75 (by decide) (by decide))).trans (vc_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.RefRun

end
-- ==== Proof.Precondition.lean ====
/- What the precondition says of one head's scales. -/
module

public import proofs.«01_k».proof.Proof.Gen.Pre_scales_nonneg
public import Idealize.ShloMosaic.Lib.Pointwise

@[expose] public section

noncomputable section

namespace Cert.Precondition

open Idealize.ShloMosaic Cert.Pre_scales_nonneg Cert.Pre_scales_nonneg.Gen Idealize.ShloMosaic.Pointwise

/-- A conjunction of bits is one when both are. -/
theorem and_one : ∀ {a b : BitVec 1}, IntOp.andi a b = 1#1 → a = 1#1 ∧ b = 1#1 := by decide

/-- A bit that is one is true. -/
theorem true_of_one : ∀ {b : Bool}, BitVec.ofBool b = 1#1 → b = true := by decide

/-- A number that compares at least zero and below infinity is real and not negative. -/
theorem real_of_cmp {x : EReal} (h1 : Ideal.cmp .oge x (Ideal.ofBits .f32 0x00000000#32) = 1#1)
    (h2 : Ideal.cmp .olt x (Ideal.ofBits .f32 0x7F800000#32) = 1#1) : 0 ≤ x ∧ x ≠ ⊤ := by
  have e1 : Ideal.ofBits .f32 0x00000000#32 = 0 := by simp [Ideal.ofBits, Ideal.ieee]
  have e2 : Ideal.ofBits .f32 0x7F800000#32 = ⊤ := by simp [Ideal.ofBits, Ideal.ieee]
  rw [e1] at h1
  rw [e2] at h2
  exact ⟨of_decide_eq_true (true_of_one h1), (of_decide_eq_true (true_of_one h2)).ne⟩

/-- Where the precondition is all ones, both scales of every head are real and not negative. -/
theorem scales (a0 : FVec Ideal S128x1x16384 .bf16) (a1 a2 : FVec Ideal S128x1x16x128 .bf16) (a3 : FVec Ideal S128x2048x16x128 .fp8e4m3)
    (a4 : FVec Ideal S16 .f32) (a5 : FVec Ideal S128x2048x16x128 .fp8e4m3) (a6 : FVec Ideal S16 .f32)
    (h : fn a0 a1 a2 a3 a4 a5 a6 = fun _ => 1#1) (i : S16.Idx) :
    (0 ≤ a4 i ∧ a4 i ≠ ⊤) ∧ (0 ≤ a6 i ∧ a6 i ≠ ⊤) := by
  obtain ⟨hk, hv⟩ := and_one (congrFun h i)
  obtain ⟨k1, k2⟩ := and_one hk
  obtain ⟨v1, v2⟩ := and_one hv
  exact ⟨real_of_cmp k1 k2, real_of_cmp v1 v2⟩

end Cert.Precondition

end
-- ==== Proof.Algebraic.lean ====
/- The value claim: from memories that agree on the arguments, the kernel and the reference leave equal results. -/
module

public import proofs.«01_k».proof.Defs
public import proofs.«01_k».proof.Proof.KernelRun
public import proofs.«01_k».proof.Proof.RefRun
public import proofs.«01_k».proof.Proof.Precondition

@[expose] public section

noncomputable section

namespace Cert.Algebraic

open Idealize.ShloMosaic Idealize.SL.Sem

/-- Both programs take the inverses of equal scales alike: they read one table of powers of two. -/
theorem inverse_eq {s s' : FVec Ideal Cert.KernelIdeal.S16 .f32} (h : s' = s) : RefRun.inverse s' = KernelRun.inverse s := by
  rw [h]
  rfl

/-- One element of the first result: the kernel's value is the reference's, where both of the head's scales are real and
not negative. -/
theorem yAt_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : RefRun.X m' c = KernelRun.X m c) (h1 : RefRun.KN m' c = KernelRun.KN m c) (h2 : RefRun.VN m' c = KernelRun.VN m c)
    (h3 : RefRun.KC m' c = KernelRun.KC m c) (h4 : RefRun.KS m' c = KernelRun.KS m c) (h5 : RefRun.VC m' c = KernelRun.VC m c)
    (h6 : RefRun.VS m' c = KernelRun.VS m c)
    (hs : ∀ i, (0 ≤ KernelRun.KS m c i ∧ KernelRun.KS m c i ≠ ⊤) ∧ (0 ≤ KernelRun.VS m c i ∧ KernelRun.VS m c i ≠ ⊤))
    (b : Fin 128) (h : Fin 16) (g : Fin 8) (d : Fin 128) :
    RefRun.yAt m' c b h g d = KernelRun.yAt m c b h g d := by
  obtain ⟨⟨k0, kt⟩, v0, vt⟩ := hs (ix1 h)
  unfold RefRun.yAt KernelRun.yAt
  rw [h0, h1, h2, h3, h5, show RefRun.KI m' c = KernelRun.KI m c from inverse_eq h4,
    show RefRun.VI m' c = KernelRun.VI m c from inverse_eq h6, h4, h6]
  exact (Equation.kOut_eq_rOut _ _ _ _ _ _ k0 kt v0 vt d).symm

/-- The value claim. -/
theorem equal : Cert.algebraic_KernelIdeal_ReferenceIdeal_pre_scales_nonneg := by
  intro m g m' g' hpre hargs
  refine ⟨fun c => (Cert.KernelIdeal.Gen.dats m 0 c).arrAt 9 Cert.KernelIdeal.cfg0.N,
    fun c => (Cert.KernelIdeal.Gen.dats m 0 c).arrAt 10 Cert.KernelIdeal.cfg0.N, fun c => KernelRun.KS m c,
    fun c => (Cert.KernelIdeal.Gen.dats m 0 c).arrAt 11 Cert.KernelIdeal.cfg0.N, fun c => KernelRun.VS m c, ?_, ?_⟩
  · refine (θ_run _ _ _).mono (fun r h c => ?_) (Cert.KernelIdeal.Value.run_blocks m g)
    obtain ⟨y, kc, vc, a0, a1, a2, a3, a4, a5, a6⟩ := h c
    exact ⟨y, kc, a4, vc, a6, a0, a1, a2, a3, a4, a5, a6⟩
  · refine (θ_run _ _ _).mono (fun r h c => ?_) (RefRun.run m' g')
    obtain ⟨y, kc, vc, a0, a1, a2, a3, a4, a5, a6⟩ := h c
    obtain ⟨e0, e1, e2, e3, e4, e5, e6⟩ := hargs c
    have hs := Precondition.scales _ _ _ _ _ _ _ (hpre c)
    refine ⟨y.trans ?_, kc.trans ?_, a4.trans e4, vc.trans ?_, a6.trans e6, a0, a1, a2, a3, a4, a5, a6⟩
    · refine Eq.trans ?_ (KernelRun.arr9 m c).symm
      exact funext fun i => yAt_eq m m' c e0 e1 e2 e3 e4 e5 e6 hs _ _ _ _
    · refine Eq.trans ?_ (KernelRun.arr10 m c).symm
      have h1 : RefRun.KN m' c = KernelRun.KN m c := e1
      have h7 : RefRun.KI m' c = KernelRun.KI m c := inverse_eq e4
      rw [h1, h7]
      rfl
    · refine Eq.trans ?_ (KernelRun.arr11 m c).symm
      have h2 : RefRun.VN m' c = KernelRun.VN m c := e2
      have h8 : RefRun.VI m' c = KernelRun.VI m c := inverse_eq e6
      rw [h2, h8]
      rfl

end Cert.Algebraic

end
-- ==== Proof.lean ====
/- The certificate: the claims of `proofs.«01_k».proof.Defs`, proved. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg
public import Idealize.ShloMosaic.Adequacy
public import Idealize.ShloMosaic.Init

public import proofs.«01_k».proof.Proof.Algebraic

@[expose] public section

noncomputable section

namespace Cert.Proof

open Idealize.ShloMosaic Idealize.SL.Sem Cert.Kernel

/-- The certificate: the kernel and the reference run and keep their arguments; the kernel read over the reals is the
printed kernel; and the two leave equal results. -/
theorem claim : Cert.Claim := ⟨Cert.Kernel.Gen.facts, Cert.KernelIdeal.Gen.facts, Cert.ReferenceIdeal.Gen.facts, Cert.Pre_scales_nonneg.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Algebraic.equal⟩

end Cert.Proof

end
